-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128 : Shape := ⟨1, ![128]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x1 : Shape := ⟨2, ![128, 1]⟩
abbrev S64x4 : Shape := ⟨2, ![64, 4]⟩
abbrev S1x64 : Shape := ⟨2, ![1, 64]⟩
abbrev S128x2 : Shape := ⟨2, ![128, 2]⟩
abbrev S1x128 : Shape := ⟨2, ![1, 128]⟩
abbrev S8x1 : Shape := ⟨2, ![8, 1]⟩
abbrev S8x128 : Shape := ⟨2, ![8, 128]⟩
abbrev S1x1x128 : Shape := ⟨3, ![1, 1, 128]⟩
abbrev S1x1x1 : Shape := ⟨3, ![1, 1, 1]⟩
abbrev S8 : Shape := ⟨1, ![8]⟩
abbrev S128x8 : Shape := ⟨2, ![128, 8]⟩
abbrev S1x16384 : Shape := ⟨2, ![1, 16384]⟩
abbrev S4x16384 : Shape := ⟨2, ![4, 16384]⟩
abbrev S64x16384 : Shape := ⟨2, ![64, 16384]⟩

abbrev nBuf : Space → Nat
  | .hbm => 15
  | .vmem => 16
  | .smem => 2
  | _ => 0

abbrev bufTy : (tb : Table) → Fin (tcTables nBuf tb) → BufTy
  | .hbm, ⟨0, _⟩ => ⟨S128x128, .f32⟩
  | .hbm, ⟨1, _⟩ => ⟨S128, .f32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S128x1, .f32⟩
  | .hbm, ⟨9, _⟩ => ⟨S64x4, .f32⟩
  | .hbm, ⟨10, _⟩ => ⟨S64x1, .f32⟩
  | .hbm, ⟨11, _⟩ => ⟨S64x64, .f32⟩
  | .hbm, ⟨12, _⟩ => ⟨S64x1, .f32⟩
  | .hbm, ⟨13, _⟩ => ⟨S1x64, .f32⟩
  | .hbm, ⟨14, _⟩ => ⟨S128x2, .f32⟩
  | .local _ .vmem, ⟨0, _⟩ => ⟨S128x128, .f32⟩
  | .local _ .vmem, ⟨1, _⟩ => ⟨S128x1, .f32⟩
  | .local _ .vmem, ⟨2, _⟩ => ⟨S64x4, .f32⟩
  | .local _ .vmem, ⟨3, _⟩ => ⟨S64x1, .f32⟩
  | .local _ .vmem, ⟨4, _⟩ => ⟨S64x64, .f32⟩
  | .local _ .vmem, ⟨5, _⟩ => ⟨S64x1, .f32⟩
  | .local _ .vmem, ⟨6, _⟩ => ⟨S1x64, .f32⟩
  | .local _ .vmem, ⟨7, _⟩ => ⟨S128x2, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .smem, ⟨0, _⟩ => ⟨S128, .f32⟩
  | .local _ .smem, ⟨1, _⟩ => ⟨S1, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg9_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_stg1_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v24 : BitVec 32 := Scalar.addi c0_i32 c10_i32
  let c1_i32 : BitVec 32 := 1#32
  ⟨c0_i32, v24, c1_i32⟩
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S128x128 : Shape := ⟨2, ![128, 128]⟩
abbrev S128 : Shape := ⟨1, ![128]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x2 : Shape := ⟨2, ![2, 2]⟩
abbrev S2 : Shape := ⟨1, ![2]⟩
abbrev S_ : Shape := ⟨0, ![]⟩
abbrev S128x128x2 : Shape := ⟨3, ![128, 128, 2]⟩
abbrev S1x128 : Shape := ⟨2, ![1, 128]⟩
abbrev S128x1x1 : Shape := ⟨3, ![128, 1, 1]⟩
abbrev S1x2x2 : Shape := ⟨3, ![1, 2, 2]⟩
abbrev S128x2x2 : Shape := ⟨3, ![128, 2, 2]⟩
abbrev S2x1 : Shape := ⟨2, ![2, 1]⟩
abbrev S1x2x1 : Shape := ⟨3, ![1, 2, 1]⟩
abbrev S128x1x2 : Shape := ⟨3, ![128, 1, 2]⟩
abbrev S128x2 : Shape := ⟨2, ![128, 2]⟩
abbrev S1x2 : Shape := ⟨2, ![1, 2]⟩
abbrev S128x2x1 : Shape := ⟨3, ![128, 2, 1]⟩
abbrev S1x128x2 : Shape := ⟨3, ![1, 128, 2]⟩
abbrev S128x1 : Shape := ⟨2, ![128, 1]⟩
abbrev S128x128x1 : Shape := ⟨3, ![128, 128, 1]⟩
abbrev S128x128x4 : Shape := ⟨3, ![128, 128, 4]⟩
abbrev S128x128x64 : Shape := ⟨3, ![128, 128, 64]⟩
abbrev S1x1x64 : Shape := ⟨3, ![1, 1, 64]⟩
abbrev S1x1x1 : Shape := ⟨3, ![1, 1, 1]⟩

abbrev nBuf : Space → Nat
  | .hbm => 228
  | .vmem => 0
  | .smem => 0
  | _ => 0

abbrev hbmTy0_0 (i : Nat) : BufTy := match i % 128 with
  | 0 => ⟨S128x128, .f32⟩
  | 1 => ⟨S128, .f32⟩
  | 2 => ⟨S4x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S2x2, .f32⟩
  | 9 => ⟨S2, .f32⟩
  | 10 => ⟨S_, .f32⟩
  | 11 => ⟨S128x128x2, .f32⟩
  | 12 => ⟨S_, .i32⟩
  | 13 => ⟨S_, .i32⟩
  | 14 => ⟨S128x128, .f32⟩
  | 15 => ⟨S2x2, .f32⟩
  | 16 => ⟨S128, .f32⟩
  | 17 => ⟨S2, .f32⟩
  | 18 => ⟨S4x64, .f32⟩
  | 19 => ⟨S64, .f32⟩
  | 20 => ⟨S64x64, .f32⟩
  | 21 => ⟨S64, .f32⟩
  | 22 => ⟨S64x1, .f32⟩
  | 23 => ⟨S1, .f32⟩
  | 24 => ⟨S_, .i32⟩
  | 25 => ⟨S_, .i32⟩
  | 26 => ⟨S128x128x2, .f32⟩
  | 27 => ⟨S128x128x2, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S1x128, .f32⟩
  | 49 => ⟨S128, .f32⟩
  | 50 => ⟨S128x1x1, .f32⟩
  | 51 => ⟨S1x2x2, .f32⟩
  | 52 => ⟨S128x2x2, .f32⟩
  | 53 => ⟨S128x2x2, .f32⟩
  | 54 => ⟨S128x2x2, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S1, .f32⟩
  | 62 => ⟨S_, .f32⟩
  | 63 => ⟨S2x1, .f32⟩
  | 64 => ⟨S2x1, .f32⟩
  | 65 => ⟨S2x1, .f32⟩
  | 66 => ⟨S1x2x1, .f32⟩
  | 67 => ⟨S128x2x2, .f32⟩
  | 68 => ⟨S128x2x2, .f32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S128x1x2, .f32⟩
  | 92 => ⟨S128x2, .f32⟩
  | 93 => ⟨S_, .f32⟩
  | 94 => ⟨S2, .f32⟩
  | 95 => ⟨S1x2, .f32⟩
  | 96 => ⟨S128x2, .f32⟩
  | 97 => ⟨S128x2, .f32⟩
  | 98 => ⟨S128x2x1, .f32⟩
  | 99 => ⟨S128x2x2, .f32⟩
  | 100 => ⟨S128x2x2, .f32⟩
  | 101 => ⟨S128x2x2, .f32⟩
  | 102 => ⟨S_, .f32⟩
  | 103 => ⟨S128x2, .f32⟩
  | 104 => ⟨S128x2, .f32⟩
  | 105 => ⟨S1x128x2, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S128x128x2, .f32⟩
  | 115 => ⟨S128, .f32⟩
  | 116 => ⟨S128x1, .f32⟩
  | 117 => ⟨S128x1, .f32⟩
  | 118 => ⟨S128x2, .f32⟩
  | 119 => ⟨S_, .f32⟩
  | 120 => ⟨S128x2, .f32⟩
  | 121 => ⟨S128x2, .f32⟩
  | 122 => ⟨S128x128x1, .f32⟩
  | 123 => ⟨S128x128x1, .f32⟩
  | 124 => ⟨S128x128x1, .f32⟩
  | 125 => ⟨S128x128x1, .f32⟩
  | 126 => ⟨S128x1, .f32⟩
  | 127 => ⟨S128x1x1, .f32⟩
  | _ => ⟨S128x128, .f32⟩

abbrev hbmTy0_1 (i : Nat) : BufTy := match i % 128 with
  | 0 => ⟨S128x128x1, .f32⟩
  | 1 => ⟨S128x128x1, .f32⟩
  | 2 => ⟨S128x128x1, .f32⟩
  | 3 => ⟨S128x128x4, .f32⟩
  | 4 => ⟨S128x128x64, .f32⟩
  | 5 => ⟨S1x1x64, .f32⟩
  | 6 => ⟨S128x128x64, .f32⟩
  | 7 => ⟨S128x128x64, .f32⟩
  | 8 => ⟨S_, .f32⟩
  | 9 => ⟨S128x128x64, .f32⟩
  | 10 => ⟨S128x128x64, .f32⟩
  | 11 => ⟨S128x128x64, .f32⟩
  | 12 => ⟨S1x1x64, .f32⟩
  | 13 => ⟨S128x128x64, .f32⟩
  | 14 => ⟨S128x128x64, .f32⟩
  | 15 => ⟨S_, .f32⟩
  | 16 => ⟨S128x128x64, .f32⟩
  | 17 => ⟨S128x128x64, .f32⟩
  | 18 => ⟨S128x128x1, .f32⟩
  | 19 => ⟨S1x1x1, .f32⟩
  | 20 => ⟨S128x128x1, .f32⟩
  | 21 => ⟨S128x128x1, .f32⟩
  | 22 => ⟨S128x128x1, .f32⟩
  | 23 => ⟨S128x128x1, .f32⟩
  | 24 => ⟨S_, .f32⟩
  | 25 => ⟨S128x128x1, .f32⟩
  | 26 => ⟨S128x128x1, .f32⟩
  | 27 => ⟨S_, .f32⟩
  | 28 => ⟨S128x128x1, .f32⟩
  | 29 => ⟨S128x128x1, .f32⟩
  | 30 => ⟨S_, .f32⟩
  | 31 => ⟨S128x128x1, .f32⟩
  | 32 => ⟨S128x128x1, .f32⟩
  | 33 => ⟨S128x128x1, .f32⟩
  | 34 => ⟨S128x128x1, .f32⟩
  | 35 => ⟨S128x128x1, .f32⟩
  | 36 => ⟨S128x1, .f32⟩
  | 37 => ⟨S128x1x1, .f32⟩
  | 38 => ⟨S128x128x1, .f32⟩
  | 39 => ⟨S128x128x1, .f32⟩
  | 40 => ⟨S128x128x1, .f32⟩
  | 41 => ⟨S128x128x4, .f32⟩
  | 42 => ⟨S128x128x64, .f32⟩
  | 43 => ⟨S1x1x64, .f32⟩
  | 44 => ⟨S128x128x64, .f32⟩
  | 45 => ⟨S128x128x64, .f32⟩
  | 46 => ⟨S_, .f32⟩
  | 47 => ⟨S128x128x64, .f32⟩
  | 48 => ⟨S128x128x64, .f32⟩
  | 49 => ⟨S128x128x64, .f32⟩
  | 50 => ⟨S1x1x64, .f32⟩
  | 51 => ⟨S128x128x64, .f32⟩
  | 52 => ⟨S128x128x64, .f32⟩
  | 53 => ⟨S_, .f32⟩
  | 54 => ⟨S128x128x64, .f32⟩
  | 55 => ⟨S128x128x64, .f32⟩
  | 56 => ⟨S128x128x1, .f32⟩
  | 57 => ⟨S1x1x1, .f32⟩
  | 58 => ⟨S128x128x1, .f32⟩
  | 59 => ⟨S128x128x1, .f32⟩
  | 60 => ⟨S128x128x1, .f32⟩
  | 61 => ⟨S128x128x1, .f32⟩
  | 62 => ⟨S_, .f32⟩
  | 63 => ⟨S128x128x1, .f32⟩
  | 64 => ⟨S128x128x1, .f32⟩
  | 65 => ⟨S_, .f32⟩
  | 66 => ⟨S128x128x1, .f32⟩
  | 67 => ⟨S128x128x1, .f32⟩
  | 68 => ⟨S_, .f32⟩
  | 69 => ⟨S128x128x1, .f32⟩
  | 70 => ⟨S128x128x1, .f32⟩
  | 71 => ⟨S128x128x1, .f32⟩
  | 72 => ⟨S128x128x1, .f32⟩
  | 73 => ⟨S128x128x1, .f32⟩
  | 74 => ⟨S128x128x2, .f32⟩
  | 75 => ⟨S_, .i32⟩
  | 76 => ⟨S_, .i1⟩
  | 77 => ⟨S128x128x2, .i1⟩
  | 78 => ⟨S128x128x2, .f32⟩
  | 79 => ⟨S128x128x2, .f32⟩
  | 80 => ⟨S_, .i32⟩
  | 81 => ⟨S_, .i32⟩
  | 82 => ⟨S128, .f32⟩
  | 83 => ⟨S128x1, .f32⟩
  | 84 => ⟨S128x1, .f32⟩
  | 85 => ⟨S128x2, .f32⟩
  | 86 => ⟨S_, .f32⟩
  | 87 => ⟨S128x2, .f32⟩
  | 88 => ⟨S128x2, .f32⟩
  | 89 => ⟨S_, .f32⟩
  | 90 => ⟨S128, .f32⟩
  | 91 => ⟨S128x1, .f32⟩
  | 92 => ⟨S128x2, .f32⟩
  | 93 => ⟨S128x2, .f32⟩
  | 94 => ⟨S128x2, .f32⟩
  | 95 => ⟨S_, .f32⟩
  | 96 => ⟨S128, .f32⟩
  | 97 => ⟨S128x1, .f32⟩
  | 98 => ⟨S128x2, .f32⟩
  | 99 => ⟨S128x2, .f32⟩
  | _ => ⟨S128x128, .f32⟩

abbrev hbmTy (i : Nat) : BufTy := match i / 128 with
  | 0 => hbmTy0_0 i
  | 1 => hbmTy0_1 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_c : Ref sig .tc := ⟨.hbm, 12, rfl⟩
abbrev main_c_2 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev main_v1_8 : Ref sig .tc := ⟨.hbm, 22, rfl⟩
abbrev main_v1_9 : Ref sig .tc := ⟨.hbm, 23, rfl⟩
abbrev main_v1_10 : Ref sig .tc := ⟨.hbm, 24, rfl⟩
abbrev main_v1_11 : Ref sig .tc := ⟨.hbm, 25, rfl⟩
abbrev main_v1_12 : Ref sig .tc := ⟨.hbm, 26, rfl⟩
abbrev main_v1_13 : Ref sig .tc := ⟨.hbm, 27, rfl⟩
abbrev main_while0c_c_19 : Ref sig .tc := ⟨.hbm, 28, rfl⟩
abbrev main_while0c_v17 : Ref sig .tc := ⟨.hbm, 29, rfl⟩
abbrev main_while0b_c_19 : Ref sig .tc := ⟨.hbm, 30, rfl⟩
abbrev main_while0b_v17 : Ref sig .tc := ⟨.hbm, 31, rfl⟩
abbrev main_while0b_c_20 : Ref sig .tc := ⟨.hbm, 32, rfl⟩
abbrev main_while0b_v18 : Ref sig .tc := ⟨.hbm, 33, rfl⟩
abbrev main_while0b_v19 : Ref sig .tc := ⟨.hbm, 34, rfl⟩
abbrev main_while0b_c_21 : Ref sig .tc := ⟨.hbm, 35, rfl⟩
abbrev main_while0b_v20 : Ref sig .tc := ⟨.hbm, 36, rfl⟩
abbrev main_while0b_c_22 : Ref sig .tc := ⟨.hbm, 37, rfl⟩
abbrev main_while0b_v21 : Ref sig .tc := ⟨.hbm, 38, rfl⟩
abbrev main_while0b_v22 : Ref sig .tc := ⟨.hbm, 39, rfl⟩
abbrev main_while0b_c_23 : Ref sig .tc := ⟨.hbm, 40, rfl⟩
abbrev main_while0b_c_24 : Ref sig .tc := ⟨.hbm, 41, rfl⟩
abbrev main_while0b_v23 : Ref sig .tc := ⟨.hbm, 42, rfl⟩
abbrev main_while0b_c_25 : Ref sig .tc := ⟨.hbm, 43, rfl⟩
abbrev main_while0b_c_26 : Ref sig .tc := ⟨.hbm, 44, rfl⟩
abbrev main_while0b_v24 : Ref sig .tc := ⟨.hbm, 45, rfl⟩
abbrev main_while0b_c_27 : Ref sig .tc := ⟨.hbm, 46, rfl⟩
abbrev main_while0b_v25 : Ref sig .tc := ⟨.hbm, 47, rfl⟩
abbrev main_while0b_v26 : Ref sig .tc := ⟨.hbm, 48, rfl⟩
abbrev main_while0b_v27 : Ref sig .tc := ⟨.hbm, 49, rfl⟩
abbrev main_while0b_v28 : Ref sig .tc := ⟨.hbm, 50, rfl⟩
abbrev main_while0b_v29 : Ref sig .tc := ⟨.hbm, 51, rfl⟩
abbrev main_while0b_v30 : Ref sig .tc := ⟨.hbm, 52, rfl⟩
abbrev main_while0b_v31 : Ref sig .tc := ⟨.hbm, 53, rfl⟩
abbrev main_while0b_v32 : Ref sig .tc := ⟨.hbm, 54, rfl⟩
abbrev main_while0b_c_28 : Ref sig .tc := ⟨.hbm, 55, rfl⟩
abbrev main_while0b_v33 : Ref sig .tc := ⟨.hbm, 56, rfl⟩
abbrev main_while0b_v34 : Ref sig .tc := ⟨.hbm, 57, rfl⟩
abbrev main_while0b_c_29 : Ref sig .tc := ⟨.hbm, 58, rfl⟩
abbrev main_while0b_v35 : Ref sig .tc := ⟨.hbm, 59, rfl⟩
abbrev main_while0b_v36 : Ref sig .tc := ⟨.hbm, 60, rfl⟩
abbrev main_while0b_v37 : Ref sig .tc := ⟨.hbm, 61, rfl⟩
abbrev main_while0b_v38 : Ref sig .tc := ⟨.hbm, 62, rfl⟩
abbrev main_while0b_v39 : Ref sig .tc := ⟨.hbm, 63, rfl⟩
abbrev main_while0b_v40 : Ref sig .tc := ⟨.hbm, 64, rfl⟩
abbrev main_while0b_v41 : Ref sig .tc := ⟨.hbm, 65, rfl⟩
abbrev main_while0b_v42 : Ref sig .tc := ⟨.hbm, 66, rfl⟩
abbrev main_while0b_v43 : Ref sig .tc := ⟨.hbm, 67, rfl⟩
abbrev main_while0b_v44 : Ref sig .tc := ⟨.hbm, 68, rfl⟩
abbrev main_while0b_v45 : Ref sig .tc := ⟨.hbm, 69, rfl⟩
abbrev main_while0b_c_30 : Ref sig .tc := ⟨.hbm, 70, rfl⟩
abbrev main_while0b_c_31 : Ref sig .tc := ⟨.hbm, 71, rfl⟩
abbrev main_while0b_v46 : Ref sig .tc := ⟨.hbm, 72, rfl⟩
abbrev main_while0b_c_32 : Ref sig .tc := ⟨.hbm, 73, rfl⟩
abbrev main_while0b_c_33 : Ref sig .tc := ⟨.hbm, 74, rfl⟩
abbrev main_while0b_v47 : Ref sig .tc := ⟨.hbm, 75, rfl⟩
abbrev main_while0b_c_34 : Ref sig .tc := ⟨.hbm, 76, rfl⟩
abbrev main_while0b_v48 : Ref sig .tc := ⟨.hbm, 77, rfl⟩
abbrev main_while0b_c_35 : Ref sig .tc := ⟨.hbm, 78, rfl⟩
abbrev main_while0b_v49 : Ref sig .tc := ⟨.hbm, 79, rfl⟩
abbrev main_while0b_c_36 : Ref sig .tc := ⟨.hbm, 80, rfl⟩
abbrev main_while0b_v50 : Ref sig .tc := ⟨.hbm, 81, rfl⟩
abbrev main_while0b_v51 : Ref sig .tc := ⟨.hbm, 82, rfl⟩
abbrev main_while0b_c_37 : Ref sig .tc := ⟨.hbm, 83, rfl⟩
abbrev main_while0b_c_38 : Ref sig .tc := ⟨.hbm, 84, rfl⟩
abbrev main_while0b_v52 : Ref sig .tc := ⟨.hbm, 85, rfl⟩
abbrev main_while0b_c_39 : Ref sig .tc := ⟨.hbm, 86, rfl⟩
abbrev main_while0b_c_40 : Ref sig .tc := ⟨.hbm, 87, rfl⟩
abbrev main_while0b_v53 : Ref sig .tc := ⟨.hbm, 88, rfl⟩
abbrev main_while0b_c_41 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_cst_42 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_cst_43 : Ref sig .tc := ⟨.hbm, 102, rfl⟩
abbrev main_while0b_v65 : Ref sig .tc := ⟨.hbm, 103, rfl⟩
abbrev main_while0b_v66 : Ref sig .tc := ⟨.hbm, 104, rfl⟩
abbrev main_while0b_v67 : Ref sig .tc := ⟨.hbm, 105, rfl⟩
abbrev main_while0b_c_44 : Ref sig .tc := ⟨.hbm, 106, rfl⟩
abbrev main_while0b_v68 : Ref sig .tc := ⟨.hbm, 107, rfl⟩
abbrev main_while0b_v69 : Ref sig .tc := ⟨.hbm, 108, rfl⟩
abbrev main_while0b_c_45 : Ref sig .tc := ⟨.hbm, 109, rfl⟩
abbrev main_while0b_v70 : Ref sig .tc := ⟨.hbm, 110, rfl⟩
abbrev main_while0b_v71 : Ref sig .tc := ⟨.hbm, 111, rfl⟩
abbrev main_while0b_c_46 : Ref sig .tc := ⟨.hbm, 112, rfl⟩
abbrev main_while0b_c_47 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_cst_48 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_v85 : Ref sig .tc := ⟨.hbm, 128, rfl⟩
abbrev main_while0b_v86 : Ref sig .tc := ⟨.hbm, 129, rfl⟩
abbrev main_while0b_v87 : Ref sig .tc := ⟨.hbm, 130, rfl⟩
abbrev main_while0b_v88 : Ref sig .tc := ⟨.hbm, 131, rfl⟩
abbrev main_while0b_v89 : Ref sig .tc := ⟨.hbm, 132, rfl⟩
abbrev main_while0b_v90 : Ref sig .tc := ⟨.hbm, 133, rfl⟩
abbrev main_while0b_v91 : Ref sig .tc := ⟨.hbm, 134, rfl⟩
abbrev main_while0b_v92 : Ref sig .tc := ⟨.hbm, 135, rfl⟩
abbrev main_while0b_cst_49 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_cst_50 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_cst_51 : Ref sig .tc := ⟨.hbm, 152, rfl⟩
abbrev main_while0b_v107 : Ref sig .tc := ⟨.hbm, 153, rfl⟩
abbrev main_while0b_v108 : Ref sig .tc := ⟨.hbm, 154, rfl⟩
abbrev main_while0b_cst_52 : Ref sig .tc := ⟨.hbm, 155, rfl⟩
abbrev main_while0b_v109 : Ref sig .tc := ⟨.hbm, 156, rfl⟩
abbrev main_while0b_v110 : Ref sig .tc := ⟨.hbm, 157, rfl⟩
abbrev main_while0b_cst_53 : Ref sig .tc := ⟨.hbm, 158, rfl⟩
abbrev main_while0b_v111 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_v123 : Ref sig .tc := ⟨.hbm, 171, rfl⟩
abbrev main_while0b_v124 : Ref sig .tc := ⟨.hbm, 172, rfl⟩
abbrev main_while0b_v125 : Ref sig .tc := ⟨.hbm, 173, rfl⟩
abbrev main_while0b_cst_54 : Ref sig .tc := ⟨.hbm, 174, rfl⟩
abbrev main_while0b_v126 : Ref sig .tc := ⟨.hbm, 175, rfl⟩
abbrev main_while0b_v127 : Ref sig .tc := ⟨.hbm, 176, rfl⟩
abbrev main_while0b_v128 : Ref sig .tc := ⟨.hbm, 177, rfl⟩
abbrev main_while0b_v129 : Ref sig .tc := ⟨.hbm, 178, rfl⟩
abbrev main_while0b_v130 : Ref sig .tc := ⟨.hbm, 179, rfl⟩
abbrev main_while0b_v131 : Ref sig .tc := ⟨.hbm, 180, rfl⟩
abbrev main_while0b_cst_55 : Ref sig .tc := ⟨.hbm, 181, rfl⟩
abbrev main_while0b_v132 : Ref sig .tc := ⟨.hbm, 182, rfl⟩
abbrev main_while0b_v133 : Ref sig .tc := ⟨.hbm, 183, rfl⟩
abbrev main_while0b_v134 : Ref sig .tc := ⟨.hbm, 184, rfl⟩
abbrev main_while0b_v135 : Ref sig .tc := ⟨.hbm, 185, rfl⟩
abbrev main_while0b_v136 : Ref sig .tc := ⟨.hbm, 186, rfl⟩
abbrev main_while0b_v137 : Ref sig .tc := ⟨.hbm, 187, rfl⟩
abbrev main_while0b_v138 : Ref sig .tc := ⟨.hbm, 188, rfl⟩
abbrev main_while0b_v139 : Ref sig .tc := ⟨.hbm, 189, rfl⟩
abbrev main_while0b_cst_56 : Ref sig .tc := ⟨.hbm, 190, rfl⟩
abbrev main_while0b_v140 : Ref sig .tc := ⟨.hbm, 191, rfl⟩
abbrev main_while0b_v141 : Ref sig .tc := ⟨.hbm, 192, rfl⟩
abbrev main_while0b_cst_57 : Ref sig .tc := ⟨.hbm, 193, rfl⟩
abbrev main_while0b_v142 : Ref sig .tc := ⟨.hbm, 194, rfl⟩
abbrev main_while0b_v143 : Ref sig .tc := ⟨.hbm, 195, rfl⟩
abbrev main_while0b_cst_58 : Ref sig .tc := ⟨.hbm, 196, rfl⟩
abbrev main_while0b_v144 : Ref sig .tc := ⟨.hbm, 197, rfl⟩
abbrev main_while0b_v145 : Ref sig .tc := ⟨.hbm, 198, rfl⟩
abbrev main_while0b_v146 : Ref sig .tc := ⟨.hbm, 199, rfl⟩
abbrev main_while0b_v147 : Ref sig .tc := ⟨.hbm, 200, rfl⟩
abbrev main_while0b_v148 : Ref sig .tc := ⟨.hbm, 201, rfl⟩
abbrev main_while0b_v149 : Ref sig .tc := ⟨.hbm, 202, rfl⟩
abbrev main_while0b_c_59 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_c_60 : Ref sig .tc := ⟨.hbm, 208, rfl⟩
abbrev main_while0b_v154 : Ref sig .tc := ⟨.hbm, 209, rfl⟩
abbrev main_v2 : Ref sig .tc := ⟨.hbm, 210, rfl⟩
abbrev main_v3 : Ref sig .tc := ⟨.hbm, 211, rfl⟩
abbrev main_v4 : Ref sig .tc := ⟨.hbm, 212, rfl⟩
abbrev main_v5 : Ref sig .tc := ⟨.hbm, 213, rfl⟩
abbrev main_cst_3 : Ref sig .tc := ⟨.hbm, 214, rfl⟩
abbrev main_v6 : Ref sig .tc := ⟨.hbm, 215, rfl⟩
abbrev main_v7 : Ref sig .tc := ⟨.hbm, 216, rfl⟩
abbrev main_cst_4 : Ref sig .tc := ⟨.hbm, 217, rfl⟩
abbrev main_v8 : Ref sig .tc := ⟨.hbm, 218, rfl⟩
abbrev main_v9 : Ref sig .tc := ⟨.hbm, 219, rfl⟩
abbrev main_v10 : Ref sig .tc := ⟨.hbm, 220, rfl⟩
abbrev main_v11 : Ref sig .tc := ⟨.hbm, 221, rfl⟩
abbrev main_v12 : Ref sig .tc := ⟨.hbm, 222, rfl⟩
abbrev main_cst_5 : Ref sig .tc := ⟨.hbm, 223, rfl⟩
abbrev main_v13 : Ref sig .tc := ⟨.hbm, 224, rfl⟩
abbrev main_v14 : Ref sig .tc := ⟨.hbm, 225, rfl⟩
abbrev main_v15 : Ref sig .tc := ⟨.hbm, 226, rfl⟩
abbrev main_v16 : Ref sig .tc := ⟨.hbm, 227, rfl⟩

abbrev nD : Nat := 1
abbrev τ : Topo := Topo.v7x

variable {F : FTy → Type} [FloatOps F]

abbrev main_while0_count : Scf.Loop 32 := ⟨0#32, 1280#32, 1#32⟩
-- ==== Proof.Prog.lean ====
/- The kernel's program written with its own structure: rows, blocks of eight rows, the calibration, one outer
   iteration, the whole kernel. The printed kernel is this program (`kernel_eq`). -/
module

public import proofs.«01_k».proof.Proof.Gen.KernelIdeal
public import Idealize.ShloMosaic.Lib.Pipeline.Regions

@[expose] public section

set_option maxRecDepth 16384

noncomputable section

namespace Cert.KernelIdeal.Bp

open Idealize.ShloMosaic Idealize.SL.Sem
open Cert.KernelIdeal Cert.KernelIdeal.Facts₀ Cert.KernelIdeal.Facts

variable {F : FTy → Type} [FloatOps F]

/-! ## Values -/

/-- The lane numbers. -/
def lanes : IVec S1x128 32 := iota .tc S1x128 32 [1] iota_S1x128_d1_w32
/-- The row numbers of a block. -/
def subs : IVec S8x1 32 := iota .tc S8x1 32 [0] iota_S8x1_d0_w32
/-- The lane numbers of a slab. -/
def lane8 : IVec S8x128 32 := iota .tc S8x128 32 [1] iota_S8x128_d1_w32

/-- A row's sum, in every lane. -/
def rowSum (row : FVec F S1x128 .f32) : FVec F S1x128 .f32 :=
  broadcast S1x128 (extractAt ![0, 0, 0] (shapeCast S1x1x1 (multiReduction .add [1, 2] S1
    (shapeCast S1x1x128 row shapeCasts_S1x128_S1x1x128) 0x00000000#32 reduces_S1x1x128_S1 (.inl rfl) rfl)
    shapeCasts_S1_S1x1x1) inpos_S1x1x1_p0_0_0)

/-- The logarithm of the sum of two exponentials, as the kernel computes it. -/
def lae (x y : FVec F S1x128 .f32) : FVec F S1x128 .f32 :=
  select (cmpf .one (subf x y) (subf x y)) (addf x y)
    (addf (maximumf x y) (log1p (exp (subf (broadcast S1x128 (Scalar.ofBits .f32 0x00000000#32)) (absf (subf x y))))))

/-- What the rows of a block done so far leave: the two slabs. -/
structure Lanes (F : FTy → Type) where
  s0 : FVec F S8x128 .f32
  s1 : FVec F S8x128 .f32

/-- A block's start: all zero. -/
def Lanes.zero : Lanes F :=
  ⟨broadcast S8x128 (Scalar.ofBits .f32 0x00000000#32), broadcast S8x128 (Scalar.ofBits .f32 0x00000000#32)⟩

/-- The two local terms of a row. -/
def loc0 (row : FVec F S1x128 .f32) (bi : F .f32) : FVec F S1x128 .f32 :=
  subf (subf (rowSum row) row) (broadcast S1x128 bi)
/-- The local term of state 1. -/
def loc1 (row : FVec F S1x128 .f32) (bi : F .f32) : FVec F S1x128 .f32 :=
  addf (subf (rowSum row) row) (broadcast S1x128 bi)

/-- Put `row` into a slab at row `r`. -/
def putRow (r : Nat) (row : FVec F S1x128 .f32) (slab : FVec F S8x128 .f32) : FVec F S8x128 .f32 :=
  select (broadcastTo S8x128 (shapeCast S8x1 (cmpi .eq subs (broadcast S8x1 (BitVec.ofNat 32 r))) shapeCasts_S8x1_S8x1)
      broadcasts_S8x1_S8x128)
    (broadcastTo S8x128 (shapeCast S1x128 row shapeCasts_S1x128_S1x128) broadcasts_S1x128_S8x128) slab

/-- Row `r` of a block from its two incoming rows. -/
def rowStep (r : Nat) (row0 row1 : FVec F S1x128 .f32) (bi : F .f32) (Jr : FVec F S1x128 .f32) (s : Lanes F) : Lanes F :=
  ⟨putRow r (lae (addf (loc0 row0 bi) Jr) (subf (loc1 row1 bi) Jr)) s.s0,
   putRow r (lae (subf (loc0 row0 bi) Jr) (addf (loc1 row1 bi) Jr)) s.s1⟩

/-- One where a slab's lane is the block's column of the slab's row, zero elsewhere. -/
def diag (B : Nat) : FVec F S8x128 .f32 :=
  sitofp .f32 (extui 32 (cmpi .eq (subi lane8 (broadcast S8x128 (BitVec.ofNat 32 (8 * B))))
    (broadcastTo S8x128 subs broadcasts_S8x1_S8x128)) natLt_1_32)

/-- Column `i` of a slab, laid along the lanes of the block's own columns. -/
def colLane (B i : Nat) (slab : FVec F S8x128 .f32) : FVec F S1x128 .f32 :=
  shapeCast S1x128 (multiReduction .add [0] S128
    (mulf (broadcastTo S8x128 (shapeCast S8x1 (multiReduction .add [1] S8
      (select (cmpi .eq lane8 (broadcast S8x128 (BitVec.ofNat 32 i))) slab
        (broadcast S8x128 (Scalar.ofBits .f32 0x00000000#32)))
      0x00000000#32 reduces_S8x128_S8 (.inl rfl) rfl) shapeCasts_S8_S8x1) broadcasts_S8x1_S8x128) (diag B))
    0x00000000#32 reduces_S8x128_S128 (.inl rfl) rfl) shapeCasts_S128_S1x128

/-- An incoming row with the lanes already updated in this block taken from the slab; the block's first row has none. -/
def pick (B : Nat) : Nat → FVec F S8x128 .f32 → FVec F S1x128 .f32 → FVec F S1x128 .f32
  | 0, _, row => row
  | r + 1, slab, row => select (andi (cmpi .sge lanes (broadcast S1x128 (BitVec.ofNat 32 (8 * B))))
      (cmpi .slt lanes (broadcast S1x128 (BitVec.ofNat 32 (8 * B + (r + 1)))))) (colLane B (8 * B + (r + 1)) slab) row

/-- The calibration network, at every pair. -/
def mlp (w1 : FVec F S64x4 .f32) (b1 : FVec F S64x1 .f32) (w2 : FVec F S64x64 .f32) (b2 : FVec F S64x1 .f32)
    (w3 : FVec F S1x64 .f32) (b3 : F .f32) (xm xo xf xs : FVec F S128x128 .f32) : FVec F S128x128 .f32 :=
  shapeCast S128x128 (logistic (addf (matmul dot_S1x64_S64x16384_S1x16384_1_0_0_1_n_n none w3
    (maximumf (addf (matmul dot_S64x64_S64x16384_S64x16384_1_0_0_1_n_n none w2
      (maximumf (addf (matmul dot_S64x4_S4x16384_S64x16384_1_0_0_1_n_n none w1
          (concatenate S4x16384 0 [⟨S1x16384, shapeCast S1x16384 xm shapeCasts_S128x128_S1x16384⟩,
            ⟨S1x16384, shapeCast S1x16384 xo shapeCasts_S128x128_S1x16384⟩,
            ⟨S1x16384, shapeCast S1x16384 xf shapeCasts_S128x128_S1x16384⟩,
            ⟨S1x16384, shapeCast S1x16384 xs shapeCasts_S128x128_S1x16384⟩]
            concatenates_S1x16384_S1x16384_S1x16384_S1x16384_S4x16384_d0)
          (constant S64x16384 .f32 0x00000000#32))
        (broadcastTo S64x16384 b1 broadcasts_S64x1_S64x16384)) (broadcast S64x16384 (Scalar.ofBits .f32 0x00000000#32)))
      (constant S64x16384 .f32 0x00000000#32))
      (broadcastTo S64x16384 b2 broadcasts_S64x1_S64x16384)) (broadcast S64x16384 (Scalar.ofBits .f32 0x00000000#32)))
    (constant S1x16384 .f32 0x00000000#32))
    (broadcast S1x16384 b3))) shapeCasts_S1x16384_S128x128

/-- The row sums of a transposed message matrix, as a column. -/
def colSum (t : FVec F S128x128 .f32) : FVec F S128x1 .f32 :=
  shapeCast S128x1 (multiReduction .add [1] S128 t 0x00000000#32 reduces_S128x128_S128 (.inl rfl) rfl) shapeCasts_S128_S128x1
/-- A column cast to its own shape. -/
def castCol (b : FVec F S128x1 .f32) : FVec F S128x1 .f32 := shapeCast S128x1 b shapeCasts_S128x1_S128x1
/-- A column spread over a matrix. -/
def wide (p : FVec F S128x1 .f32) : FVec F S128x128 .f32 :=
  broadcastTo S128x128 (castCol p) broadcasts_S128x1_S128x128
/-- The two beliefs before normalisation. -/
def bel0 (t : FVec F S128x128 .f32) (b : FVec F S128x1 .f32) : FVec F S128x1 .f32 := subf (colSum t) (castCol b)
/-- The beliefs in state 1. -/
def bel1 (t : FVec F S128x128 .f32) (b : FVec F S128x1 .f32) : FVec F S128x1 .f32 := addf (colSum t) (castCol b)
/-- The mixture of new and old messages. -/
def mix (al m o : FVec F S128x128 .f32) : FVec F S128x128 .f32 :=
  addf (mulf (subf (broadcast S128x128 (Scalar.ofBits .f32 0x3F800000#32)) al) m) (mulf al o)
/-- The transpose of a matrix. -/
def tr (al : FVec F S128x128 .f32) : FVec F S128x128 .f32 := transpose S128x128 [1, 0] al transposes_S128x128_p1_0_S128x128
/-- The transpose of a slab. -/
def trSlab (s : FVec F S8x128 .f32) : FVec F S128x8 .f32 := transpose S128x8 [1, 0] s transposes_S8x128_p1_0_S128x8
/-- The zero matrix. -/
def zeroM : FVec F S128x128 .f32 := broadcast S128x128 (Scalar.ofBits .f32 0x00000000#32)

/-! ## Memory operations -/

/-- The kernel's programs. -/
abbrev PP (F : FTy → Type) [FloatOps F] (α : Type) := Prog (TpuEff nD τ sig (Elt F) Λ₀ .tc) α
/-- A message matrix in memory. -/
abbrev MW := Memref sig .tc .vmem S128x128 .f32

/-- Block `B` of eight rows lies in the matrix. -/
theorem inb_rows (B : Nat) (h : B < 16) : ∀ a, (![8 * B, 0] : Fin 2 → Nat) a + S8x128.size a ≤ S128x128.size a := by
  intro a; fin_cases a <;> simp [S8x128, S128x128] <;> omega
/-- Block `B` of eight columns lies in the matrix. -/
theorem inb_cols (B : Nat) (h : B < 16) : ∀ a, (![0, 8 * B] : Fin 2 → Nat) a + S128x8.size a ≤ S128x128.size a := by
  intro a; fin_cases a <;> simp [S128x8, S128x128] <;> omega
/-- Row `i` lies in the matrix. -/
theorem inb_row (i : Nat) (h : i < 128) : ∀ a, (![i, 0] : Fin 2 → Nat) a + S1x128.size a ≤ S128x128.size a := by
  intro a; fin_cases a <;> simp [S1x128, S128x128] <;> omega
/-- Word `i` lies in the vector. -/
theorem inb_word (i : Nat) (h : i < 128) : ∀ a, (![i] : Fin 1 → Nat) a + S1.size a ≤ S128.size a := by
  intro a; fin_cases a; simp [S1, S128]; omega
/-- Row `r` of block `B` is a row of the matrix. -/
theorem row_lt {B r : Nat} (hB : B < 16) (hr : r < 8) : 8 * B + r < 128 := by omega

/-- Read a whole matrix. -/
def ldM (m : MW) : PP F (Vec F S128x128 .f32) :=
  Prog.lift (.load m (Rect.unit (s := S128x128) ![0, 0] S128x128.size inb_S128x128_S128x128_0_0).toLoadRect (View.loadsAt_vmem h_S128x128))
/-- Write a whole matrix (after reading it, unused). -/
def stM (m : MW) (v : FVec F S128x128 .f32) : PP F PUnit := do
  let _ ← ldM m
  Prog.lift (.store m (Rect.unit (s := S128x128) ![0, 0] S128x128.size inb_S128x128_S128x128_0_0)
    (shapeCast S128x128 v shapeCasts_S128x128_S128x128) Finset.univ (View.stores_vmem_bits_univ h_S128x128 rfl) (.inl rfl))
/-- Read eight rows. -/
def ldR (m : MW) (B : Nat) (h : B < 16) : PP F (Vec F S8x128 .f32) :=
  Prog.lift (.load m (Rect.unit (s := S128x128) ![8 * B, 0] S8x128.size (inb_rows B h)).toLoadRect (View.loadsAt_vmem h_S8x128))
/-- Write eight rows. -/
def stR (m : MW) (B : Nat) (h : B < 16) (v : FVec F S8x128 .f32) : PP F PUnit := do
  let _ ← ldR m B h
  Prog.lift (.store m (Rect.unit (s := S128x128) ![8 * B, 0] S8x128.size (inb_rows B h))
    (shapeCast S8x128 v shapeCasts_S8x128_S8x128) Finset.univ (View.stores_vmem_bits_univ h_S8x128 rfl) (.inl rfl))
/-- Read eight columns. -/
def ldC (m : MW) (B : Nat) (h : B < 16) : PP F (Vec F S128x8 .f32) :=
  Prog.lift (.load m (Rect.unit (s := S128x128) ![0, 8 * B] S128x8.size (inb_cols B h)).toLoadRect (View.loadsAt_vmem h_S128x8))
/-- Write eight columns. -/
def stC (m : MW) (B : Nat) (h : B < 16) (v : FVec F S128x8 .f32) : PP F PUnit := do
  let _ ← ldC m B h
  Prog.lift (.store m (Rect.unit (s := S128x128) ![0, 8 * B] S128x8.size (inb_cols B h))
    (shapeCast S128x8 v shapeCasts_S128x8_S128x8) Finset.univ (View.stores_vmem_bits_univ h_S128x8 rfl) (.inl rfl))
/-- Read one row. -/
def ldRow (m : MW) (i : Nat) (h : i < 128) : PP F (Vec F S1x128 .f32) :=
  Prog.lift (.load m (Rect.unit (s := S128x128) ![i, 0] S1x128.size (inb_row i h)).toLoadRect (View.loadsAt_vmem h_S1x128))
/-- Read one word. -/
def ldWord (m : Memref sig .tc .smem S128 .f32) (i : Nat) (h : i < 128) : PP F (Elt F .f32) :=
  smemLoad m (Rect.unit (s := S128) ![i] S1.size (inb_word i h)) numel1_S1 rfl
/-- Read a column. -/
def ldCol (m : Memref sig .tc .vmem S128x1 .f32) : PP F (Vec F S128x1 .f32) :=
  Prog.lift (.load m (Rect.unit (s := S128x1) ![0, 0] S128x1.size inb_S128x1_S128x1_0_0).toLoadRect (View.loadsAt_vmem h_S128x1))

/-! ## The program -/

section
variable (arg0 : MW) (arg1 : Memref sig .tc .smem S128 .f32) (arg10 arg11 arg12 arg13 : MW)

/-- One row of a block. -/
def rowP (B : Nat) (hB : B < 16) (r : Nat) (hr : r < 8) (s : Lanes F) : PP F (Lanes F) := do
  let t0 ← ldRow arg12 (8 * B + r) (row_lt hB hr)
  let t1 ← ldRow arg13 (8 * B + r) (row_lt hB hr)
  let bi ← ldWord arg1 (8 * B + r) (row_lt hB hr)
  let Jr ← ldRow arg0 (8 * B + r) (row_lt hB hr)
  pure (rowStep r (pick B r s.s0 t0) (pick B r s.s1 t1) bi Jr s)

/-- The first `n` rows of a block. -/
def rowsP (B : Nat) (hB : B < 16) : (n : Nat) → n ≤ 8 → PP F (Lanes F)
  | 0, _ => pure Lanes.zero
  | n + 1, h => rowsP B hB n (Nat.le_of_succ_le h) >>= rowP arg0 arg1 arg12 arg13 B hB n h

/-- One block of eight rows. -/
def blockP (B : Nat) (hB : B < 16) : PP F PUnit := do
  let s ← rowsP arg0 arg1 arg12 arg13 B hB 8 (Nat.le_refl 8)
  stR arg10 B hB s.s0
  stR arg11 B hB s.s1
  stC arg12 B hB (trSlab s.s0)
  stC arg13 B hB (trSlab s.s1)

/-- The first `n` blocks. -/
def blocksP : (n : Nat) → n ≤ 16 → PP F PUnit
  | 0, _ => pure ⟨⟩
  | n + 1, h => blocksP n (Nat.le_of_succ_le h) >>= fun _ => blockP arg0 arg1 arg10 arg11 arg12 arg13 n h

variable (arg2 : Memref sig .tc .vmem S128x1 .f32) (arg14 arg15 arg16 arg17 : MW)

/-- Keep the messages of the iteration before. -/
def saveP : PP F PUnit := do
  let x ← ldM arg10
  stM arg14 x
  let x ← ldM arg11
  stM arg15 x
  let x ← ldM arg12
  stM arg16 x
  let x ← ldM arg13
  stM arg17 x

/-- The calibration of both channels. -/
def calibP (w1 : FVec F S64x4 .f32) (b1 : FVec F S64x1 .f32) (w2 : FVec F S64x64 .f32) (b2 : FVec F S64x1 .f32)
    (w3 : FVec F S1x64 .f32) (b3 : F .f32) : PP F PUnit := do
  let t0 ← ldM arg12
  let t1 ← ldM arg13
  let b ← ldCol arg2
  let m ← ldM arg10
  let o ← ldM arg14
  stM arg10 (mix (mlp w1 b1 w2 b2 w3 b3 m o (wide (bel0 t0 b)) (addf t0 t1)) m o)
  let ot ← ldM arg16
  stM arg12 (mix (tr (mlp w1 b1 w2 b2 w3 b3 m o (wide (bel0 t0 b)) (addf t0 t1))) t0 ot)
  let t0' ← ldM arg12
  let b ← ldCol arg2
  let m' ← ldM arg11
  let o' ← ldM arg15
  stM arg11 (mix (mlp w1 b1 w2 b2 w3 b3 m' o' (wide (bel1 t1 b)) (addf t1 t0')) m' o')
  let ot' ← ldM arg17
  stM arg13 (mix (tr (mlp w1 b1 w2 b2 w3 b3 m' o' (wide (bel1 t1 b)) (addf t1 t0'))) t1 ot')

/-- One outer iteration. -/
def tripP (w1 : FVec F S64x4 .f32) (b1 : FVec F S64x1 .f32) (w2 : FVec F S64x64 .f32) (b2 : FVec F S64x1 .f32)
    (w3 : FVec F S1x64 .f32) (b3 : F .f32) : PP F PUnit := do
  saveP arg10 arg11 arg12 arg13 arg14 arg15 arg16 arg17
  blocksP arg0 arg1 arg10 arg11 arg12 arg13 16 (Nat.le_refl 16)
  calibP arg10 arg11 arg12 arg13 arg2 arg14 arg15 arg16 arg17 w1 b1 w2 b2 w3 b3

/-- The normalised beliefs from the two unnormalised ones: the first and the second column. -/
def prob0 (p0 p1 : FVec F S128x1 .f32) : FVec F S128x1 .f32 :=
  divf (exp (subf p0 (maximumf p0 p1))) (addf (exp (subf p0 (maximumf p0 p1))) (exp (subf p1 (maximumf p0 p1))))
/-- The normalised belief in state 1. -/
def prob1 (p0 p1 : FVec F S128x1 .f32) : FVec F S128x1 .f32 :=
  divf (exp (subf p1 (maximumf p0 p1))) (addf (exp (subf p0 (maximumf p0 p1))) (exp (subf p1 (maximumf p0 p1))))

/-- The output's two columns, from the first channel's column sums. -/
def outP (arg9 : Memref sig .tc .vmem S128x2 .f32) (cs : FVec F S128x1 .f32) : PP F PUnit := do
  let b ← ldCol arg2
  let t1 ← ldM arg13
  let b' ← ldCol arg2
  let _ ← Prog.lift (.load arg9 (Rect.unit (s := S128x2) ![0, 0] S128x1.size inb_S128x2_S128x1_0_0).toLoadRect (View.loadsAt_vmem h_S128x1))
  Prog.lift (.store arg9 (Rect.unit (s := S128x2) ![0, 0] S128x1.size inb_S128x2_S128x1_0_0)
    (prob0 (subf cs (castCol b)) (bel1 t1 b')) Finset.univ (View.stores_vmem_bits_univ h_S128x1 rfl) (.inl rfl))
  let _ ← Prog.lift (.load arg9 (Rect.unit (s := S128x2) ![0, 1] S128x1.size inb_S128x2_S128x1_0_1).toLoadRect (View.loadsAt_vmem h_S128x1))
  Prog.lift (.store arg9 (Rect.unit (s := S128x2) ![0, 1] S128x1.size inb_S128x2_S128x1_0_1)
    (prob1 (subf cs (castCol b)) (bel1 t1 b')) Finset.univ (View.stores_vmem_bits_univ h_S128x1 rfl) (.inl rfl))

end

variable (arg0 : Memref sig .tc .vmem S128x128 .f32) (harg0 : arg0.IsWhole) (arg1 : Memref sig .tc .smem S128 .f32) (harg1 : arg1.IsWhole) (arg2 : Memref sig .tc .vmem S128x1 .f32) (harg2 : arg2.IsWhole) (arg3 : Memref sig .tc .vmem S64x4 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1x64 .f32) (harg7 : arg7.IsWhole) (arg8 : Memref sig .tc .smem S1 .f32) (harg8 : arg8.IsWhole) (arg9 : Memref sig .tc .vmem S128x2 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole)

/-- Everything up to the first channel's final column sums. -/
def mainP : PP F (FVec F S128x1 .f32) := do
  stM arg10 zeroM
  stM arg11 zeroM
  stM arg12 zeroM
  stM arg13 zeroM
  let w1 : Vec F S64x4 .f32 ← Prog.lift (.load arg3 (Rect.unit (s := S64x4) ![0, 0] S64x4.size inb_S64x4_S64x4_0_0).toLoadRect (View.loadsAt_vmem h_S64x4))
  let b1 : Vec F S64x1 .f32 ← Prog.lift (.load arg4 (Rect.unit (s := S64x1) ![0, 0] S64x1.size inb_S64x1_S64x1_0_0).toLoadRect (View.loadsAt_vmem h_S64x1))
  let w2 : Vec F S64x64 .f32 ← Prog.lift (.load arg5 (Rect.unit (s := S64x64) ![0, 0] S64x64.size inb_S64x64_S64x64_0_0).toLoadRect (View.loadsAt_vmem h_S64x64))
  let b2 : Vec F S64x1 .f32 ← Prog.lift (.load arg6 (Rect.unit (s := S64x1) ![0, 0] S64x1.size inb_S64x1_S64x1_0_0).toLoadRect (View.loadsAt_vmem h_S64x1))
  let w3 : Vec F S1x64 .f32 ← Prog.lift (.load arg7 (Rect.unit (s := S1x64) ![0, 0] S1x64.size inb_S1x64_S1x64_0_0).toLoadRect (View.loadsAt_vmem h_S1x64))
  let b3 : Elt F .f32 ← smemLoad arg8 (Rect.unit (s := S1) ![0] S1.size inb_S1_S1_0) numel1_S1 rfl
  Scf.Loop.for k0_t1_loop k0_t1_ok ⟨⟩ fun _ _ =>
    tripP arg0 arg1 arg10 arg11 arg12 arg13 arg2 arg14 arg15 arg16 arg17
      (shapeCast S64x4 w1 shapeCasts_S64x4_S64x4) (shapeCast S64x1 b1 shapeCasts_S64x1_S64x1)
      (shapeCast S64x64 w2 shapeCasts_S64x64_S64x64) (shapeCast S64x1 b2 shapeCasts_S64x1_S64x1)
      (shapeCast S1x64 w3 shapeCasts_S1x64_S1x64) b3
  let t0 ← ldM arg12
  pure (colSum t0)

/-- The whole kernel. -/
def kernelP : PP F PUnit :=
  mainP arg0 arg1 arg2 arg3 arg4 arg5 arg6 arg7 arg8 arg10 arg11 arg12 arg13 arg14 arg15 arg16 arg17
    >>= outP arg13 arg2 arg9

/-- The printed part up to the first channel's final column sums is `mainP`. -/
theorem main_eq :
    k0_part225 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = mainP arg0 arg1 arg2 arg3 arg4 arg5 arg6 arg7 arg8 arg10 arg11 arg12 arg13 arg14 arg15 arg16 arg17 := by
  chain_rfl

/-- The printed kernel is the program above: the two unfold to the same memory operations on the same values. -/
theorem kernel_eq :
    cc0__ggnn_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = kernelP arg0 arg1 arg2 arg3 arg4 arg5 arg6 arg7 arg8 arg9 arg10 arg11 arg12 arg13 arg14 arg15 arg16 arg17 := by
  chain_rfl

end Cert.KernelIdeal.Bp

end
-- ==== Proof.Mem.lean ====
/- What the kernel's memory operations do to the contents of its memrefs, and how such statements compose. -/
module

public import proofs.«01_k».proof.Proof.Prog
public import proofs.«01_k».proof.Proof.Gen.KernelIdeal.Frame
public import Idealize.ShloMosaic.Lib.Tactic

@[expose] public section

set_option maxRecDepth 16384

noncomputable section

namespace Cert.KernelIdeal.Bp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄" => MT nD τ sig Unit (Elt F) ℕ (UR sig nD τ) ℕ

/-! ## Programs as state changes -/

section Does
variable {σ α β : Type}

/-- Run from memory in state `s` the program returns `a` and leaves the memory in state `s'`. -/
def Does (R : σ → sProp (MT nD τ sig Unit (Elt F) ℕ (UR sig nD τ) ℕ)) (c : Dev nD) (p : PP F α) (s : σ) (a : α) (s' : σ) : Prop :=
  ∀ (E : Set ℕ) (K : α → sProp (MT nD τ sig Unit (Elt F) ℕ (UR sig nD τ) ℕ)),
    (iprop(R s ∗ (R s' -∗ K a))) ⊢ wp frame (wpE (defs₀ (F := F)) Variants.none (c : Thread nD τ) none) E p K

variable {R : σ → sProp (MT nD τ sig Unit (Elt F) ℕ (UR sig nD τ) ℕ)} {c : Dev nD}

/-- Returning a value changes nothing. -/
theorem Does.pure (a : α) (s : σ) : Does R c (pure a : PP F α) s a s := by
  intro E K
  rw [wp_pure]
  iintro ⟨H, Hk⟩
  imodintro
  iapply Hk
  iexact H

/-- One program after another. -/
theorem Does.bind {p : PP F α} {f : α → PP F β} {s s' s'' : σ} {a : α} {b : β}
    (hp : Does R c p s a s') (hf : Does R c (f a) s' b s'') : Does R c (p >>= f) s b s'' := by
  intro E K
  rw [wp_bind]
  iintro ⟨H, Hk⟩
  iapply (hp E _)
  isplitl [H]; · iexact H
  iintro H
  iapply (hf E K)
  isplitl [H]; · iexact H
  iexact Hk

/-- A program that does the same from an equal state to an equal one. -/
theorem Does.cast {p : PP F α} {s s' t' : σ} {a b : α} (hp : Does R c p s a s') (ha : a = b) (hs : s' = t') :
    Does R c p s b t' := ha ▸ hs ▸ hp

end Does

/-! ## The memory operations on owned memrefs -/

section Ops
variable (c : Dev nD) {sp : Space} {cs : CoreSpace} {s : Shape} {e : EltTy}

/-- A load returns the rectangle of what the memref holds. -/
theorem owns_load (m : Memref sig .tc cs s e) (r : Rect s) (hl : m.view.LoadsAt r.toLoadRect) (X : s.Idx → Elt F e)
    (E : Set ℕ) (K : (r.shape.Idx → Elt F e) → sProp 𝕄) :
    iprop(owns (c : Thread nD τ) m fullShare X ∗ (owns (c : Thread nD τ) m fullShare X -∗ K (fun x => X (r.emb x))))
      ⊢ wp frame (wpE (defs₀ (F := F)) Variants.none (c : Thread nD τ) none) E (Prog.lift (.load m r.toLoadRect hl)) K := by
  unfold owns
  iintro ⟨⟨%f, %hf, H⟩, Hk⟩
  obtain rfl := hf
  iapply (wp_load (m := m) (r := r.toLoadRect) (hl := hl) (k := fun x => .ret x) (S := m.view.set) Variants.none
    (c : Thread nD τ) none E (View.setOn_subset_set _ _)) $$ H
  iintro H
  rw [wp_ret]
  imodintro
  first | rw [show m.view.readAt (Elt F) r.toLoadRect f = fun x => m.view.read (Elt F) f (r.emb x) from rfl] | rw [show (m.access r).read (Elt F) f (Shape.Idx.first (h1.symm ▸ Nat.one_pos)) = m.view.read (Elt F) f (r.emb (Shape.Idx.first (h1.symm ▸ Nat.one_pos))) from rfl]
  iapply Hk
  iexists f
  isplitr; · ipureintro; rfl
  iexact H

/-- A store replaces the rectangle of what the memref holds. -/
theorem owns_store (m : Memref sig .tc cs s e) (r : Rect s) (w : r.shape.Idx → Elt F e) (hx : (m.access r).Stores Finset.univ)
    (hm : Finset.univ = Finset.univ ∨ ∀ a, r.stride a = 1) (X : s.Idx → Elt F e) (E : Set ℕ) (K : PUnit → sProp 𝕄) :
    iprop(owns (c : Thread nD τ) m fullShare X ∗ (owns (c : Thread nD τ) m fullShare (r.overlay X w) -∗ K ⟨⟩))
      ⊢ wp frame (wpE (defs₀ (F := F)) Variants.none (c : Thread nD τ) none) E (Prog.lift (.store m r w Finset.univ hx hm)) K := by
  unfold owns
  iintro ⟨⟨%f, %hf, H⟩, Hk⟩
  obtain rfl := hf
  iapply (wp_store (m := m) (r := r) (hx := hx) (hm := hm) (k := fun x => .ret x) (S := m.view.set) (f := f) Variants.none
    (c : Thread nD τ) none E (View.set_slice_subset _ _)) $$ H
  iintro H
  rw [wp_ret]
  imodintro
  iapply Hk
  iexists _
  isplitr; swap; · iexact H
  ipureintro
  funext y
  by_cases hy : ∃ x, r.emb x = y
  · obtain ⟨x, rfl⟩ := hy
    rw [Rect.overlay_emb]
    exact View.read_slice_write_emb _ _ _ (Finset.mem_univ _)
  · rw [Rect.overlay_of_not_mem (h := by rw [← Rect.map_emb_univ]; simpa using hy)]
    exact View.read_slice_write_of_not_mem _ _ _ _ (by simpa using hy)

/-- A word read from scalar memory. -/
theorem owns_word (m : Memref sig .tc .smem s e) (r : Rect s) (h1 : r.shape.numel = 1) (hp : e.packing = 1) (X : s.Idx → Elt F e)
    (E : Set ℕ) (K : Elt F e → sProp 𝕄) :
    iprop(owns (c : Thread nD τ) m fullShare X ∗ (owns (c : Thread nD τ) m fullShare X -∗ K (X (r.emb (Shape.Idx.first (h1.symm ▸ Nat.one_pos))))))
      ⊢ wp frame (wpE (defs₀ (F := F)) Variants.none (c : Thread nD τ) none) E (smemLoad m r h1 hp) K := by
  unfold owns smemLoad
  iintro ⟨⟨%f, %hf, H⟩, Hk⟩
  obtain rfl := hf
  iapply (wp_smemLoadElt (m := m) (r := r) (S := m.view.set) (f := f) Variants.none
    (c : Thread nD τ) none E (View.set_slice_subset _ _)) $$ H
  iintro H
  rw [wp_ret]
  imodintro
  first | rw [show m.view.readAt (Elt F) r.toLoadRect f = fun x => m.view.read (Elt F) f (r.emb x) from rfl] | rw [show (m.access r).read (Elt F) f (Shape.Idx.first (h1.symm ▸ Nat.one_pos)) = m.view.read (Elt F) f (r.emb (Shape.Idx.first (h1.symm ▸ Nat.one_pos))) from rfl]
  iapply Hk
  iexists f
  isplitr; · ipureintro; rfl
  iexact H

end Ops

end Cert.KernelIdeal.Bp

end
-- ==== Proof.Run.lean ====
/- What the kernel's program does to its memory, as functions of the memory's contents: a row, a block, the calibration, an
   outer iteration, the whole kernel. -/
module

public import proofs.«01_k».proof.Proof.Mem
public import Idealize.ShloMosaic.Lib.VecWindow
public import Idealize.ShloMosaic.Lib.Pipeline.Value
public import Idealize.ShloMosaic.Lib.Scf

@[expose] public section

set_option maxRecDepth 16384

noncomputable section

namespace Cert.KernelIdeal.Bp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄" => MT nD τ sig Unit (Elt F) ℕ (UR sig nD τ) ℕ

/-! ## The contents and the functions on them -/

/-- What the kernel's inputs hold. -/
structure Ins (F : FTy → Type) [FloatOps F] where
  J : Vec F S128x128 .f32
  bs : Vec F S128 .f32
  bc : Vec F S128x1 .f32
  w1 : Vec F S64x4 .f32
  b1 : Vec F S64x1 .f32
  w2 : Vec F S64x64 .f32
  b2 : Vec F S64x1 .f32
  w3 : Vec F S1x64 .f32
  b3 : Vec F S1 .f32

/-- What the kernel's output and scratch memrefs hold: the two message matrices `m0`, `m1`, their transposes `t0`, `t1`, and
    what these four held before the outer iteration. -/
structure St (F : FTy → Type) [FloatOps F] where
  out : Vec F S128x2 .f32
  m0 : Vec F S128x128 .f32
  m1 : Vec F S128x128 .f32
  t0 : Vec F S128x128 .f32
  t1 : Vec F S128x128 .f32
  p0 : Vec F S128x128 .f32
  p1 : Vec F S128x128 .f32
  q0 : Vec F S128x128 .f32
  q1 : Vec F S128x128 .f32

/-- Block `B` of eight rows. -/
abbrev rectR (B : Nat) (h : B < 16) : Rect S128x128 := Rect.unit (s := S128x128) ![8 * B, 0] S8x128.size (inb_rows B h)
/-- Block `B` of eight columns. -/
abbrev rectC (B : Nat) (h : B < 16) : Rect S128x128 := Rect.unit (s := S128x128) ![0, 8 * B] S128x8.size (inb_cols B h)
/-- Row `i`. -/
abbrev rectRow (i : Nat) (h : i < 128) : Rect S128x128 := Rect.unit (s := S128x128) ![i, 0] S1x128.size (inb_row i h)
/-- Word `i`. -/
abbrev rectWord (i : Nat) (h : i < 128) : Rect S128 := Rect.unit (s := S128) ![i] S1.size (inb_word i h)
/-- The output's first column. -/
abbrev rectO0 : Rect S128x2 := Rect.unit (s := S128x2) ![0, 0] S128x1.size inb_S128x2_S128x1_0_0
/-- The output's second column. -/
abbrev rectO1 : Rect S128x2 := Rect.unit (s := S128x2) ![0, 1] S128x1.size inb_S128x2_S128x1_0_1

/-- Eight rows of a matrix. -/
def rowsAt (B : Nat) (h : B < 16) (X : Vec F S128x128 .f32) : Vec F S8x128 .f32 := fun x => X ((rectR B h).emb x)
/-- One row of a matrix. -/
def rowAt (i : Nat) (h : i < 128) (X : Vec F S128x128 .f32) : Vec F S1x128 .f32 := fun x => X ((rectRow i h).emb x)
/-- One word of a vector. -/
def wordAt (i : Nat) (h : i < 128) (X : Vec F S128 .f32) : F .f32 :=
  X ((rectWord i h).emb (Shape.Idx.first (numel1_S1.symm ▸ Nat.one_pos)))
/-- Eight rows of a matrix replaced. -/
def setRows (B : Nat) (h : B < 16) (X : Vec F S128x128 .f32) (w : Vec F S8x128 .f32) : Vec F S128x128 .f32 := (rectR B h).overlay X w
/-- Eight columns of a matrix replaced. -/
def setCols (B : Nat) (h : B < 16) (X : Vec F S128x128 .f32) (w : Vec F S128x8 .f32) : Vec F S128x128 .f32 := (rectC B h).overlay X w

/-- The first `n` rows of a block, the incoming messages read from `t0` and `t1`. -/
def rowSt (x : Ins F) (B : Nat) (hB : B < 16) (t0 t1 : Vec F S128x128 .f32) : (n : Nat) → n ≤ 8 → Lanes F
  | 0, _ => Lanes.zero
  | n + 1, h => rowStep n
      (pick B n (rowSt x B hB t0 t1 n (Nat.le_of_succ_le h)).s0 (rowAt (8 * B + n) (row_lt hB h) t0))
      (pick B n (rowSt x B hB t0 t1 n (Nat.le_of_succ_le h)).s1 (rowAt (8 * B + n) (row_lt hB h) t1))
      (wordAt (8 * B + n) (row_lt hB h) x.bs) (rowAt (8 * B + n) (row_lt hB h) x.J)
      (rowSt x B hB t0 t1 n (Nat.le_of_succ_le h))

/-- A block's slabs. -/
def blkLanes (x : Ins F) (B : Nat) (hB : B < 16) (s : St F) : Lanes F := rowSt x B hB s.t0 s.t1 8 (Nat.le_refl 8)

/-- A block's slabs `L` written to the four matrices. -/
def putSt (B : Nat) (hB : B < 16) (s : St F) (L : Lanes F) : St F :=
  { s with
    m0 := setRows B hB s.m0 L.s0
    m1 := setRows B hB s.m1 L.s1
    t0 := setCols B hB s.t0 (trSlab L.s0)
    t1 := setCols B hB s.t1 (trSlab L.s1) }

/-- One block. -/
def blkSt (x : Ins F) (B : Nat) (hB : B < 16) (s : St F) : St F := putSt B hB s (blkLanes x B hB s)

/-- The first `n` blocks. -/
def blksSt (x : Ins F) (s : St F) : (n : Nat) → n ≤ 16 → St F
  | 0, _ => s
  | n + 1, h => blkSt x n h (blksSt x s n (Nat.le_of_succ_le h))

/-- The messages kept. -/
def saveSt (s : St F) : St F := { s with p0 := s.m0, p1 := s.m1, q0 := s.t0, q1 := s.t1 }

/-- The scalar bias of the network. -/
def b3At (x : Ins F) : F .f32 :=
  x.b3 ((Rect.unit (s := S1) ![0] S1.size inb_S1_S1_0).emb (Shape.Idx.first (numel1_S1.symm ▸ Nat.one_pos)))

/-- The network at an iteration's inputs. -/
def net (x : Ins F) (m o f sm : FVec F S128x128 .f32) : FVec F S128x128 .f32 :=
  mlp x.w1 x.b1 x.w2 x.b2 x.w3 (b3At x) m o f sm

/-- The mixing weights of the first channel. -/
def al0 (x : Ins F) (s : St F) : FVec F S128x128 .f32 := net x s.m0 s.p0 (wide (bel0 s.t0 x.bc)) (addf s.t0 s.t1)
/-- The first channel calibrated. -/
def cal0 (x : Ins F) (s : St F) : St F :=
  { s with m0 := mix (al0 x s) s.m0 s.p0, t0 := mix (tr (al0 x s)) s.t0 s.q0 }
/-- The mixing weights of the second channel. -/
def al1 (x : Ins F) (s : St F) : FVec F S128x128 .f32 := net x s.m1 s.p1 (wide (bel1 s.t1 x.bc)) (addf s.t1 s.t0)
/-- The second channel calibrated. -/
def cal1 (x : Ins F) (s : St F) : St F :=
  { s with m1 := mix (al1 x s) s.m1 s.p1, t1 := mix (tr (al1 x s)) s.t1 s.q1 }

/-- One outer iteration. -/
def tripSt (x : Ins F) (s : St F) : St F := cal1 x (cal0 x (blksSt x (saveSt s) 16 (Nat.le_refl 16)))

/-- All messages zero. -/
def zeroSt (s : St F) : St F := { s with m0 := zeroM, m1 := zeroM, t0 := zeroM, t1 := zeroM }

/-- The state after the ten iterations. -/
def loopSt (x : Ins F) (s : St F) : St F := (tripSt x)^[10] (zeroSt s)

/-- What the output ends with, over what it held. -/
def outV (x : Ins F) (s : St F) : Vec F S128x2 .f32 :=
  rectO1.overlay (rectO0.overlay s.out (prob0 (bel0 s.t0 x.bc) (bel1 s.t1 x.bc))) (prob1 (bel0 s.t0 x.bc) (bel1 s.t1 x.bc))

/-! ## The program -/

section Triples
variable (c : Dev nD) (a0 : MW) (a1 : Memref sig .tc .smem S128 .f32) (a2 : Memref sig .tc .vmem S128x1 .f32) (a3 : Memref sig .tc .vmem S64x4 .f32) (a4 : Memref sig .tc .vmem S64x1 .f32) (a5 : Memref sig .tc .vmem S64x64 .f32) (a6 : Memref sig .tc .vmem S64x1 .f32) (a7 : Memref sig .tc .vmem S1x64 .f32) (a8 : Memref sig .tc .smem S1 .f32) (a9 : Memref sig .tc .vmem S128x2 .f32) (a10 a11 a12 a13 a14 a15 a16 a17 : MW)

/-- The kernel's memrefs at given contents. -/
def Res (x : Ins F) (s : St F) : sProp 𝕄 :=
  iprop(owns (c : Thread nD τ) a0 fullShare x.J ∗ owns (c : Thread nD τ) a1 fullShare x.bs ∗ owns (c : Thread nD τ) a2 fullShare x.bc
    ∗ owns (c : Thread nD τ) a3 fullShare x.w1 ∗ owns (c : Thread nD τ) a4 fullShare x.b1 ∗ owns (c : Thread nD τ) a5 fullShare x.w2
    ∗ owns (c : Thread nD τ) a6 fullShare x.b2 ∗ owns (c : Thread nD τ) a7 fullShare x.w3 ∗ owns (c : Thread nD τ) a8 fullShare x.b3
    ∗ owns (c : Thread nD τ) a9 fullShare s.out
    ∗ owns (c : Thread nD τ) a10 fullShare s.m0 ∗ owns (c : Thread nD τ) a11 fullShare s.m1
    ∗ owns (c : Thread nD τ) a12 fullShare s.t0 ∗ owns (c : Thread nD τ) a13 fullShare s.t1
    ∗ owns (c : Thread nD τ) a14 fullShare s.p0 ∗ owns (c : Thread nD τ) a15 fullShare s.p1
    ∗ owns (c : Thread nD τ) a16 fullShare s.q0 ∗ owns (c : Thread nD τ) a17 fullShare s.q1)

section Focus
variable {sp : Space} {sh : Shape} {e : EltTy}

/-- `P` holds the memref `m` at `X`, and becomes `P' Y` when `m` is returned at `Y`. -/
def Foc (m : Memref sig .tc sp sh e) (X : sh.Idx → Elt F e) (P : sProp (MT nD τ sig Unit (Elt F) ℕ (UR sig nD τ) ℕ))
    (P' : (sh.Idx → Elt F e) → sProp (MT nD τ sig Unit (Elt F) ℕ (UR sig nD τ) ℕ)) : Prop :=
  P ⊢ iprop(owns (c : Thread nD τ) m fullShare X ∗ (∀ Y, owns (c : Thread nD τ) m fullShare Y -∗ P' Y))

variable {c}

/-- The last memref of a list, focused. -/
theorem Foc.last (m : Memref sig .tc sp sh e) (X : sh.Idx → Elt F e) :
    Foc c m X (owns (c : Thread nD τ) m fullShare X) (fun Y => owns (c : Thread nD τ) m fullShare Y) := by
  unfold Foc
  iintro H
  isplitl [H]; · iexact H
  iintro %Y H
  iexact H

/-- The first memref of a list, focused. -/
theorem Foc.head (m : Memref sig .tc sp sh e) (X : sh.Idx → Elt F e) (P : sProp (MT nD τ sig Unit (Elt F) ℕ (UR sig nD τ) ℕ)) :
    Foc c m X iprop(owns (c : Thread nD τ) m fullShare X ∗ P) (fun Y => iprop(owns (c : Thread nD τ) m fullShare Y ∗ P)) := by
  unfold Foc
  iintro ⟨H, HP⟩
  isplitl [H]; · iexact H
  iintro %Y H
  isplitl [H]; · iexact H
  iexact HP

/-- A later memref of a list, focused. -/
theorem Foc.tail {m : Memref sig .tc sp sh e} {X : sh.Idx → Elt F e} {P : sProp (MT nD τ sig Unit (Elt F) ℕ (UR sig nD τ) ℕ)}
    {P' : (sh.Idx → Elt F e) → sProp (MT nD τ sig Unit (Elt F) ℕ (UR sig nD τ) ℕ)} (T : sProp (MT nD τ sig Unit (Elt F) ℕ (UR sig nD τ) ℕ)) (h : Foc c m X P P') :
    Foc c m X iprop(T ∗ P) (fun Y => iprop(T ∗ P' Y)) := by
  unfold Foc at h ⊢
  iintro ⟨HT, HP⟩
  icases h $$ HP with ⟨H, Hk⟩
  isplitl [H]; · iexact H
  iintro %Y H
  isplitl [HT]; · iexact HT
  iapply Hk
  iexact H

end Focus

section Rules
variable {c} {σ : Type} {R : σ → sProp (MT nD τ sig Unit (Elt F) ℕ (UR sig nD τ) ℕ)} {cs : CoreSpace} {sh : Shape} {e : EltTy}

/-- A load changes nothing and returns what is there. -/
theorem Does.load {m : Memref sig .tc cs sh e} (r : Rect sh) (hl : m.view.LoadsAt r.toLoadRect) {X : sh.Idx → Elt F e} {s : σ}
    {P' : (sh.Idx → Elt F e) → sProp (MT nD τ sig Unit (Elt F) ℕ (UR sig nD τ) ℕ)} (h : Foc c m X (R s) P') (hs : P' X = R s) :
    Does R c (Prog.lift (.load m r.toLoadRect hl)) s (fun x => X (r.emb x)) s := by
  intro E K
  unfold Foc at h
  iintro ⟨H, Hk⟩
  icases h $$ H with ⟨H, Hb⟩
  iapply (owns_load c m r hl X E K)
  isplitl [H]; · iexact H
  iintro H
  iapply Hk
  rw [← hs]
  iapply Hb
  iexact H

/-- A store replaces what is there. -/
theorem Does.store {m : Memref sig .tc cs sh e} (r : Rect sh) (w : r.shape.Idx → Elt F e) (hx : (m.access r).Stores Finset.univ)
    (hm : Finset.univ = Finset.univ ∨ ∀ a, r.stride a = 1) {X : sh.Idx → Elt F e} {s s' : σ}
    {P' : (sh.Idx → Elt F e) → sProp (MT nD τ sig Unit (Elt F) ℕ (UR sig nD τ) ℕ)} (h : Foc c m X (R s) P') (hs : P' (r.overlay X w) = R s') :
    Does R c (Prog.lift (.store m r w Finset.univ hx hm)) s ⟨⟩ s' := by
  intro E K
  unfold Foc at h
  iintro ⟨H, Hk⟩
  icases h $$ H with ⟨H, Hb⟩
  iapply (owns_store c m r w hx hm X E K)
  isplitl [H]; · iexact H
  iintro H
  iapply Hk
  rw [← hs]
  iapply Hb
  iexact H

/-- A word read changes nothing. -/
theorem Does.word {m : Memref sig .tc .smem sh e} (r : Rect sh) (h1 : r.shape.numel = 1) (hp : e.packing = 1) {X : sh.Idx → Elt F e} {s : σ}
    {P' : (sh.Idx → Elt F e) → sProp (MT nD τ sig Unit (Elt F) ℕ (UR sig nD τ) ℕ)} (h : Foc c m X (R s) P') (hs : P' X = R s) :
    Does R c (smemLoad m r h1 hp) s (X (r.emb (Shape.Idx.first (h1.symm ▸ Nat.one_pos)))) s := by
  intro E K
  unfold Foc at h
  iintro ⟨H, Hk⟩
  icases h $$ H with ⟨H, Hb⟩
  iapply (owns_word c m r h1 hp X E K)
  isplitl [H]; · iexact H
  iintro H
  iapply Hk
  rw [← hs]
  iapply Hb
  iexact H

/-- Replacing everything. -/
theorem overlay_full {s : Shape} {α : Type} {off : Fin s.rank → ℕ} (inb : ∀ a, off a + s.size a ≤ s.size a) (X w : s.Idx → α) :
    (Rect.unit off s.size inb).overlay X w = w := by
  funext y
  conv_lhs => rw [← Rect.emb_unit_full inb y]
  rw [Rect.overlay_emb]

variable {m : MW} {X : Vec F S128x128 .f32} {s s' : σ} {P' : Vec F S128x128 .f32 → sProp (MT nD τ sig Unit (Elt F) ℕ (UR sig nD τ) ℕ)}

/-- Loading a whole matrix. -/
theorem Does.ldM (h : Foc c m X (R s) P') (hs : P' X = R s) : Does R c (ldM m) s X s :=
  (Does.load _ _ h hs).cast (funext fun x => congrArg X (Rect.emb_unit_full _ x)) rfl

/-- Storing a whole matrix. -/
theorem Does.stM {v : FVec F S128x128 .f32} (h : Foc c m X (R s) P') (hs : P' X = R s) (hs' : P' v = R s') : Does R c (stM m v) s ⟨⟩ s' := by
  refine Does.bind (Does.ldM h hs) (Does.store _ _ _ _ h ?_)
  rw [overlay_full, shapeCast_self]; exact hs'

/-- Loading a block of rows. -/
theorem Does.ldR (B : Nat) (hB : B < 16) (h : Foc c m X (R s) P') (hs : P' X = R s) : Does R c (ldR m B hB) s (rowsAt B hB X) s :=
  Does.load _ _ h hs

/-- Storing a block of rows. -/
theorem Does.stR (B : Nat) (hB : B < 16) {v : FVec F S8x128 .f32} (h : Foc c m X (R s) P') (hs : P' X = R s)
    (hs' : P' (setRows B hB X v) = R s') : Does R c (stR m B hB v) s ⟨⟩ s' := by
  refine Does.bind (Does.ldR B hB h hs) (Does.store _ _ _ _ h ?_)
  rw [shapeCast_self]; exact hs'

/-- Storing a block of columns. -/
theorem Does.stC (B : Nat) (hB : B < 16) {v : FVec F S128x8 .f32} (h : Foc c m X (R s) P') (hs : P' X = R s)
    (hs' : P' (setCols B hB X v) = R s') : Does R c (stC m B hB v) s ⟨⟩ s' := by
  refine Does.bind (Does.load _ _ h hs) (Does.store _ _ _ _ h ?_)
  rw [shapeCast_self]; exact hs'

end Rules

/-! ### The kernel's own memrefs -/

section Prog
variable {c} (x : Ins F) (s : St F)

/-- The memrefs the program reads or writes, one by one. -/
theorem foc0 : Foc c a0 x.J ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with J := Y } s) := by unfold Res; exact Foc.head _ _ _
/-- The kernel's memref 1, focused. -/
theorem foc1 : Foc c a1 x.bs ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with bs := Y } s) := by unfold Res; exact Foc.tail _ (Foc.head _ _ _)
/-- The kernel's memref 2, focused. -/
theorem foc2 : Foc c a2 x.bc ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with bc := Y } s) := by
  unfold Res; iterate 2 apply Foc.tail
  exact Foc.head _ _ _
/-- The kernel's memref 3, focused. -/
theorem foc3 : Foc c a3 x.w1 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with w1 := Y } s) := by
  unfold Res; iterate 3 apply Foc.tail
  exact Foc.head _ _ _
/-- The kernel's memref 4, focused. -/
theorem foc4 : Foc c a4 x.b1 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with b1 := Y } s) := by
  unfold Res; iterate 4 apply Foc.tail
  exact Foc.head _ _ _
/-- The kernel's memref 5, focused. -/
theorem foc5 : Foc c a5 x.w2 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with w2 := Y } s) := by
  unfold Res; iterate 5 apply Foc.tail
  exact Foc.head _ _ _
/-- The kernel's memref 6, focused. -/
theorem foc6 : Foc c a6 x.b2 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with b2 := Y } s) := by
  unfold Res; iterate 6 apply Foc.tail
  exact Foc.head _ _ _
/-- The kernel's memref 7, focused. -/
theorem foc7 : Foc c a7 x.w3 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with w3 := Y } s) := by
  unfold Res; iterate 7 apply Foc.tail
  exact Foc.head _ _ _
/-- The kernel's memref 8, focused. -/
theorem foc8 : Foc c a8 x.b3 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) { x with b3 := Y } s) := by
  unfold Res; iterate 8 apply Foc.tail
  exact Foc.head _ _ _
/-- The kernel's memref 9, focused. -/
theorem foc9 : Foc c a9 s.out ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with out := Y }) := by
  unfold Res; iterate 9 apply Foc.tail
  exact Foc.head _ _ _
/-- The kernel's memref 10, focused. -/
theorem foc10 : Foc c a10 s.m0 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with m0 := Y }) := by
  unfold Res; iterate 10 apply Foc.tail
  exact Foc.head _ _ _
/-- The kernel's memref 11, focused. -/
theorem foc11 : Foc c a11 s.m1 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with m1 := Y }) := by
  unfold Res; iterate 11 apply Foc.tail
  exact Foc.head _ _ _
/-- The kernel's memref 12, focused. -/
theorem foc12 : Foc c a12 s.t0 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with t0 := Y }) := by
  unfold Res; iterate 12 apply Foc.tail
  exact Foc.head _ _ _
/-- The kernel's memref 13, focused. -/
theorem foc13 : Foc c a13 s.t1 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with t1 := Y }) := by
  unfold Res; iterate 13 apply Foc.tail
  exact Foc.head _ _ _
/-- The kernel's memref 14, focused. -/
theorem foc14 : Foc c a14 s.p0 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with p0 := Y }) := by
  unfold Res; iterate 14 apply Foc.tail
  exact Foc.head _ _ _
/-- The kernel's memref 15, focused. -/
theorem foc15 : Foc c a15 s.p1 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with p1 := Y }) := by
  unfold Res; iterate 15 apply Foc.tail
  exact Foc.head _ _ _
/-- The kernel's memref 16, focused. -/
theorem foc16 : Foc c a16 s.q0 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with q0 := Y }) := by
  unfold Res; iterate 16 apply Foc.tail
  exact Foc.head _ _ _
/-- The kernel's memref 17, focused. -/
theorem foc17 : Foc c a17 s.q1 ((Res c a0 a1 a2 a3 a4 a5 a6 a7 a8 a9 a10 a11 a12 a13 a14 a15 a16 a17) x s) (fun Y => (Res c a0 a1 a2 a3 a4 a5 a6 a7 a8 a9 a10 a11 a12 a13 a14 a15 a16 a17) x { s with q1 := Y }) := by
  unfold Res; iterate 17 apply Foc.tail
  exact Foc.last _ _

/-- The first channel read. -/
theorem Does_ld10 : Does (Res c a0 a1 a2 a3 a4 a5 a6 a7 a8 a9 a10 a11 a12 a13 a14 a15 a16 a17 x) c (ldM a10) s s.m0 s := Does.ldM (foc10 a0 a1 a2 a3 a4 a5 a6 a7 a8 a9 a10 a11 a12 a13 a14 a15 a16 a17 x s) rfl
/-- The first channel written. -/
theorem Does_st10 (v : FVec F S128x128 .f32) : Does (Res c a0 a1 a2 a3 a4 a5 a6 a7 a8 a9 a10 a11 a12 a13 a14 a15 a16 a17 x) c (stM a10 v) s ⟨⟩ { s with m0 := v } :=
  Does.stM (foc10 a0 a1 a2 a3 a4 a5 a6 a7 a8 a9 a10 a11 a12 a13 a14 a15 a16 a17 x s) rfl rfl
/-- The second channel read. -/
theorem Does_ld11 : Does (Res c a0 a1 a2 a3 a4 a5 a6 a7 a8 a9 a10 a11 a12 a13 a14 a15 a16 a17 x) c (ldM a11) s s.m1 s := Does.ldM (foc11 a0 a1 a2 a3 a4 a5 a6 a7 a8 a9 a10 a11 a12 a13 a14 a15 a16 a17 x s) rfl
/-- The second channel written. -/
theorem Does_st11 (v : FVec F S128x128 .f32) : Does (Res c a0 a1 a2 a3 a4 a5 a6 a7 a8 a9 a10 a11 a12 a13 a14 a15 a16 a17 x) c (stM a11 v) s ⟨⟩ { s with m1 := v } :=
  Does.stM (foc11 a0 a1 a2 a3 a4 a5 a6 a7 a8 a9 a10 a11 a12 a13 a14 a15 a16 a17 x s) rfl rfl
/-- The first channel's transpose read. -/
theorem Does_ld12 : Does (Res c a0 a1 a2 a3 a4 a5 a6 a7 a8 a9 a10 a11 a12 a13 a14 a15 a16 a17 x) c (ldM a12) s s.t0 s := Does.ldM (foc12 a0 a1 a2 a3 a4 a5 a6 a7 a8 a9 a10 a11 a12 a13 a14 a15 a16 a17 x s) rfl
/-- The first channel's transpose written. -/
theorem Does_st12 (v : FVec F S128x128 .f32) : Does (Res c a0 a1 a2 a3 a4 a5 a6 a7 a8 a9 a10 a11 a12 a13 a14 a15 a16 a17 x) c (stM a12 v) s ⟨⟩ { s with t0 := v } :=
  Does.stM (foc12 a0 a1 a2 a3 a4 a5 a6 a7 a8 a9 a10 a11 a12 a13 a14 a15 a16 a17 x s) rfl rfl
/-- The second channel's transpose read. -/
theorem Does_ld13 : Does (Res c a0 a1 a2 a3 a4 a5 a6 a7 a8 a9 a10 a11 a12 a13 a14 a15 a16 a17 x) c (ldM a13) s s.t1 s := Does.ldM (foc13 a0 a1 a2 a3 a4 a5 a6 a7 a8 a9 a10 a11 a12 a13 a14 a15 a16 a17 x s) rfl
/-- The second channel's transpose written. -/
theorem Does_st13 (v : FVec F S128x128 .f32) : Does (Res c a0 a1 a2 a3 a4 a5 a6 a7 a8 a9 a10 a11 a12 a13 a14 a15 a16 a17 x) c (stM a13 v) s ⟨⟩ { s with t1 := v } :=
  Does.stM (foc13 a0 a1 a2 a3 a4 a5 a6 a7 a8 a9 a10 a11 a12 a13 a14 a15 a16 a17 x s) rfl rfl
/-- The first channel kept read. -/
theorem Does_ld14 : Does (Res c a0 a1 a2 a3 a4 a5 a6 a7 a8 a9 a10 a11 a12 a13 a14 a15 a16 a17 x) c (ldM a14) s s.p0 s := Does.ldM (foc14 a0 a1 a2 a3 a4 a5 a6 a7 a8 a9 a10 a11 a12 a13 a14 a15 a16 a17 x s) rfl
/-- The first channel kept written. -/
theorem Does_st14 (v : FVec F S128x128 .f32) : Does (Res c a0 a1 a2 a3 a4 a5 a6 a7 a8 a9 a10 a11 a12 a13 a14 a15 a16 a17 x) c (stM a14 v) s ⟨⟩ { s with p0 := v } :=
  Does.stM (foc14 a0 a1 a2 a3 a4 a5 a6 a7 a8 a9 a10 a11 a12 a13 a14 a15 a16 a17 x s) rfl rfl
/-- The second channel kept read. -/
theorem Does_ld15 : Does (Res c a0 a1 a2 a3 a4 a5 a6 a7 a8 a9 a10 a11 a12 a13 a14 a15 a16 a17 x) c (ldM a15) s s.p1 s := Does.ldM (foc15 a0 a1 a2 a3 a4 a5 a6 a7 a8 a9 a10 a11 a12 a13 a14 a15 a16 a17 x s) rfl
/-- The second channel kept written. -/
theorem Does_st15 (v : FVec F S128x128 .f32) : Does (Res c a0 a1 a2 a3 a4 a5 a6 a7 a8 a9 a10 a11 a12 a13 a14 a15 a16 a17 x) c (stM a15 v) s ⟨⟩ { s with p1 := v } :=
  Does.stM (foc15 a0 a1 a2 a3 a4 a5 a6 a7 a8 a9 a10 a11 a12 a13 a14 a15 a16 a17 x s) rfl rfl
/-- The first channel's transpose kept read. -/
theorem Does_ld16 : Does (Res c a0 a1 a2 a3 a4 a5 a6 a7 a8 a9 a10 a11 a12 a13 a14 a15 a16 a17 x) c (ldM a16) s s.q0 s := Does.ldM (foc16 a0 a1 a2 a3 a4 a5 a6 a7 a8 a9 a10 a11 a12 a13 a14 a15 a16 a17 x s) rfl
/-- The first channel's transpose kept written. -/
theorem Does_st16 (v : FVec F S128x128 .f32) : Does (Res c a0 a1 a2 a3 a4 a5 a6 a7 a8 a9 a10 a11 a12 a13 a14 a15 a16 a17 x) c (stM a16 v) s ⟨⟩ { s with q0 := v } :=
  Does.stM (foc16 a0 a1 a2 a3 a4 a5 a6 a7 a8 a9 a10 a11 a12 a13 a14 a15 a16 a17 x s) rfl rfl
/-- The second channel's transpose kept read. -/
theorem Does_ld17 : Does (Res c a0 a1 a2 a3 a4 a5 a6 a7 a8 a9 a10 a11 a12 a13 a14 a15 a16 a17 x) c (ldM a17) s s.q1 s := Does.ldM (foc17 a0 a1 a2 a3 a4 a5 a6 a7 a8 a9 a10 a11 a12 a13 a14 a15 a16 a17 x s) rfl
/-- The second channel's transpose kept written. -/
theorem Does_st17 (v : FVec F S128x128 .f32) : Does (Res c a0 a1 a2 a3 a4 a5 a6 a7 a8 a9 a10 a11 a12 a13 a14 a15 a16 a17 x) c (stM a17 v) s ⟨⟩ { s with q1 := v } :=
  Does.stM (foc17 a0 a1 a2 a3 a4 a5 a6 a7 a8 a9 a10 a11 a12 a13 a14 a15 a16 a17 x s) rfl rfl
/-- The node biases, as a column, read. -/
theorem Does_col : Does (Res c a0 a1 a2 a3 a4 a5 a6 a7 a8 a9 a10 a11 a12 a13 a14 a15 a16 a17 x) c (ldCol a2) s x.bc s :=
  (Does.load _ _ (foc2 a0 a1 a2 a3 a4 a5 a6 a7 a8 a9 a10 a11 a12 a13 a14 a15 a16 a17 x s) rfl).cast (funext fun y => congrArg x.bc (Rect.emb_unit_full _ y)) rfl

/-- One row. -/
theorem Does_row (B : Nat) (hB : B < 16) (r : Nat) (hr : r < 8) (L : Lanes F) :
    Does (Res c a0 a1 a2 a3 a4 a5 a6 a7 a8 a9 a10 a11 a12 a13 a14 a15 a16 a17 x) c (rowP a0 a1 a12 a13 B hB r hr L) s
      (rowStep r (pick B r L.s0 (rowAt (8 * B + r) (row_lt hB hr) s.t0)) (pick B r L.s1 (rowAt (8 * B + r) (row_lt hB hr) s.t1))
        (wordAt (8 * B + r) (row_lt hB hr) x.bs) (rowAt (8 * B + r) (row_lt hB hr) x.J) L) s := by
  unfold rowP
  refine Does.bind (Does.load _ _ (foc12 a0 a1 a2 a3 a4 a5 a6 a7 a8 a9 a10 a11 a12 a13 a14 a15 a16 a17 x s) rfl) ?_
  refine Does.bind (Does.load _ _ (foc13 a0 a1 a2 a3 a4 a5 a6 a7 a8 a9 a10 a11 a12 a13 a14 a15 a16 a17 x s) rfl) ?_
  refine Does.bind (Does.word _ _ _ (foc1 a0 a1 a2 a3 a4 a5 a6 a7 a8 a9 a10 a11 a12 a13 a14 a15 a16 a17 x s) rfl) ?_
  exact Does.bind (Does.load _ _ (foc0 a0 a1 a2 a3 a4 a5 a6 a7 a8 a9 a10 a11 a12 a13 a14 a15 a16 a17 x s) rfl) (Does.pure _ _)

/-- A block's rows. -/
theorem Does_rows (B : Nat) (hB : B < 16) : (n : Nat) → (h : n ≤ 8) →
    Does (Res c a0 a1 a2 a3 a4 a5 a6 a7 a8 a9 a10 a11 a12 a13 a14 a15 a16 a17 x) c (rowsP a0 a1 a12 a13 B hB n h) s (rowSt x B hB s.t0 s.t1 n h) s
  | 0, _ => Does.pure _ _
  | n + 1, h => Does.bind (Does_rows B hB n (Nat.le_of_succ_le h)) (Does_row a0 a1 a2 a3 a4 a5 a6 a7 a8 a9 a10 a11 a12 a13 a14 a15 a16 a17 x s B hB n h _)

/-- Eight rows of a matrix written. -/
theorem Does_put10 (B : Nat) (hB : B < 16) (v : FVec F S8x128 .f32) :
    Does (Res c a0 a1 a2 a3 a4 a5 a6 a7 a8 a9 a10 a11 a12 a13 a14 a15 a16 a17 x) c (stR a10 B hB v) s ⟨⟩ { s with m0 := setRows B hB s.m0 v } := by
  have h := foc10 (c := c) a0 a1 a2 a3 a4 a5 a6 a7 a8 a9 a10 a11 a12 a13 a14 a15 a16 a17 x s
  exact Does.stR B hB h rfl rfl
/-- Eight rows of a matrix written. -/
theorem Does_put11 (B : Nat) (hB : B < 16) (v : FVec F S8x128 .f32) :
    Does (Res c a0 a1 a2 a3 a4 a5 a6 a7 a8 a9 a10 a11 a12 a13 a14 a15 a16 a17 x) c (stR a11 B hB v) s ⟨⟩ { s with m1 := setRows B hB s.m1 v } := by
  have h := foc11 (c := c) a0 a1 a2 a3 a4 a5 a6 a7 a8 a9 a10 a11 a12 a13 a14 a15 a16 a17 x s
  exact Does.stR B hB h rfl rfl
/-- Eight columns of a matrix written. -/
theorem Does_put12 (B : Nat) (hB : B < 16) (v : FVec F S128x8 .f32) :
    Does (Res c a0 a1 a2 a3 a4 a5 a6 a7 a8 a9 a10 a11 a12 a13 a14 a15 a16 a17 x) c (stC a12 B hB v) s ⟨⟩ { s with t0 := setCols B hB s.t0 v } := by
  have h := foc12 (c := c) a0 a1 a2 a3 a4 a5 a6 a7 a8 a9 a10 a11 a12 a13 a14 a15 a16 a17 x s
  exact Does.stC B hB h rfl rfl
/-- Eight columns of a matrix written. -/
theorem Does_put13 (B : Nat) (hB : B < 16) (v : FVec F S128x8 .f32) :
    Does (Res c a0 a1 a2 a3 a4 a5 a6 a7 a8 a9 a10 a11 a12 a13 a14 a15 a16 a17 x) c (stC a13 B hB v) s ⟨⟩ { s with t1 := setCols B hB s.t1 v } := by
  have h := foc13 (c := c) a0 a1 a2 a3 a4 a5 a6 a7 a8 a9 a10 a11 a12 a13 a14 a15 a16 a17 x s
  exact Does.stC B hB h rfl rfl

/-- A block's slabs written. -/
theorem Does_put (B : Nat) (hB : B < 16) (L : Lanes F) : Does (Res c a0 a1 a2 a3 a4 a5 a6 a7 a8 a9 a10 a11 a12 a13 a14 a15 a16 a17 x) c
    (stR a10 B hB L.s0 >>= fun _ => stR a11 B hB L.s1 >>= fun _ => stC a12 B hB (trSlab L.s0) >>= fun _ => stC a13 B hB (trSlab L.s1))
    s ⟨⟩ (putSt B hB s L) := by
  refine Does.bind (Does_put10 a0 a1 a2 a3 a4 a5 a6 a7 a8 a9 a10 a11 a12 a13 a14 a15 a16 a17 x s B hB L.s0) ?_
  refine Does.bind (Does_put11 a0 a1 a2 a3 a4 a5 a6 a7 a8 a9 a10 a11 a12 a13 a14 a15 a16 a17 x _ B hB L.s1) ?_
  refine Does.bind (Does_put12 a0 a1 a2 a3 a4 a5 a6 a7 a8 a9 a10 a11 a12 a13 a14 a15 a16 a17 x _ B hB (trSlab L.s0)) ?_
  exact Does_put13 a0 a1 a2 a3 a4 a5 a6 a7 a8 a9 a10 a11 a12 a13 a14 a15 a16 a17 x _ B hB (trSlab L.s1)

/-- One block. -/
theorem Does_block (B : Nat) (hB : B < 16) : Does (Res c a0 a1 a2 a3 a4 a5 a6 a7 a8 a9 a10 a11 a12 a13 a14 a15 a16 a17 x) c (blockP a0 a1 a10 a11 a12 a13 B hB) s ⟨⟩ (blkSt x B hB s) := by
  unfold blockP
  refine Does.bind (Does_rows a0 a1 a2 a3 a4 a5 a6 a7 a8 a9 a10 a11 a12 a13 a14 a15 a16 a17 x s B hB 8 (Nat.le_refl 8)) ?_
  exact Does_put a0 a1 a2 a3 a4 a5 a6 a7 a8 a9 a10 a11 a12 a13 a14 a15 a16 a17 x s B hB (blkLanes x B hB s)

/-- The blocks. -/
theorem Does_blocks : (n : Nat) → (h : n ≤ 16) → Does (Res c a0 a1 a2 a3 a4 a5 a6 a7 a8 a9 a10 a11 a12 a13 a14 a15 a16 a17 x) c (blocksP a0 a1 a10 a11 a12 a13 n h) s ⟨⟩ (blksSt x s n h)
  | 0, _ => Does.pure _ _
  | n + 1, h => Does.bind (Does_blocks n (Nat.le_of_succ_le h)) (Does_block a0 a1 a2 a3 a4 a5 a6 a7 a8 a9 a10 a11 a12 a13 a14 a15 a16 a17 x _ n h)

/-- The messages kept. -/
theorem Does_save : Does (Res c a0 a1 a2 a3 a4 a5 a6 a7 a8 a9 a10 a11 a12 a13 a14 a15 a16 a17 x) c (saveP a10 a11 a12 a13 a14 a15 a16 a17) s ⟨⟩ (saveSt s) := by
  unfold saveP
  refine Does.bind (Does_ld10 a0 a1 a2 a3 a4 a5 a6 a7 a8 a9 a10 a11 a12 a13 a14 a15 a16 a17 x _) ?_
  refine Does.bind (Does_st14 a0 a1 a2 a3 a4 a5 a6 a7 a8 a9 a10 a11 a12 a13 a14 a15 a16 a17 x _ _) ?_
  refine Does.bind (Does_ld11 a0 a1 a2 a3 a4 a5 a6 a7 a8 a9 a10 a11 a12 a13 a14 a15 a16 a17 x _) ?_
  refine Does.bind (Does_st15 a0 a1 a2 a3 a4 a5 a6 a7 a8 a9 a10 a11 a12 a13 a14 a15 a16 a17 x _ _) ?_
  refine Does.bind (Does_ld12 a0 a1 a2 a3 a4 a5 a6 a7 a8 a9 a10 a11 a12 a13 a14 a15 a16 a17 x _) ?_
  refine Does.bind (Does_st16 a0 a1 a2 a3 a4 a5 a6 a7 a8 a9 a10 a11 a12 a13 a14 a15 a16 a17 x _ _) ?_
  refine Does.bind (Does_ld13 a0 a1 a2 a3 a4 a5 a6 a7 a8 a9 a10 a11 a12 a13 a14 a15 a16 a17 x _) ?_
  exact Does_st17 a0 a1 a2 a3 a4 a5 a6 a7 a8 a9 a10 a11 a12 a13 a14 a15 a16 a17 x _ _

/-- The calibration. -/
theorem Does_calib : Does (Res c a0 a1 a2 a3 a4 a5 a6 a7 a8 a9 a10 a11 a12 a13 a14 a15 a16 a17 x) c (calibP a10 a11 a12 a13 a2 a14 a15 a16 a17 x.w1 x.b1 x.w2 x.b2 x.w3 (b3At x)) s ⟨⟩ (cal1 x (cal0 x s)) := by
  unfold calibP
  refine Does.bind (Does_ld12 a0 a1 a2 a3 a4 a5 a6 a7 a8 a9 a10 a11 a12 a13 a14 a15 a16 a17 x _) ?_
  refine Does.bind (Does_ld13 a0 a1 a2 a3 a4 a5 a6 a7 a8 a9 a10 a11 a12 a13 a14 a15 a16 a17 x _) ?_
  refine Does.bind (Does_col a0 a1 a2 a3 a4 a5 a6 a7 a8 a9 a10 a11 a12 a13 a14 a15 a16 a17 x _) ?_
  refine Does.bind (Does_ld10 a0 a1 a2 a3 a4 a5 a6 a7 a8 a9 a10 a11 a12 a13 a14 a15 a16 a17 x _) ?_
  refine Does.bind (Does_ld14 a0 a1 a2 a3 a4 a5 a6 a7 a8 a9 a10 a11 a12 a13 a14 a15 a16 a17 x _) ?_
  refine Does.bind (Does_st10 a0 a1 a2 a3 a4 a5 a6 a7 a8 a9 a10 a11 a12 a13 a14 a15 a16 a17 x _ _) ?_
  refine Does.bind (Does_ld16 a0 a1 a2 a3 a4 a5 a6 a7 a8 a9 a10 a11 a12 a13 a14 a15 a16 a17 x _) ?_
  refine Does.bind (Does_st12 a0 a1 a2 a3 a4 a5 a6 a7 a8 a9 a10 a11 a12 a13 a14 a15 a16 a17 x _ _) ?_
  refine Does.bind (Does_ld12 a0 a1 a2 a3 a4 a5 a6 a7 a8 a9 a10 a11 a12 a13 a14 a15 a16 a17 x _) ?_
  refine Does.bind (Does_col a0 a1 a2 a3 a4 a5 a6 a7 a8 a9 a10 a11 a12 a13 a14 a15 a16 a17 x _) ?_
  refine Does.bind (Does_ld11 a0 a1 a2 a3 a4 a5 a6 a7 a8 a9 a10 a11 a12 a13 a14 a15 a16 a17 x _) ?_
  refine Does.bind (Does_ld15 a0 a1 a2 a3 a4 a5 a6 a7 a8 a9 a10 a11 a12 a13 a14 a15 a16 a17 x _) ?_
  refine Does.bind (Does_st11 a0 a1 a2 a3 a4 a5 a6 a7 a8 a9 a10 a11 a12 a13 a14 a15 a16 a17 x _ _) ?_
  refine Does.bind (Does_ld17 a0 a1 a2 a3 a4 a5 a6 a7 a8 a9 a10 a11 a12 a13 a14 a15 a16 a17 x _) ?_
  exact Does_st13 a0 a1 a2 a3 a4 a5 a6 a7 a8 a9 a10 a11 a12 a13 a14 a15 a16 a17 x _ _

attribute [local irreducible] blocksP blksSt in
/-- One outer iteration. -/
theorem Does_trip : Does (Res c a0 a1 a2 a3 a4 a5 a6 a7 a8 a9 a10 a11 a12 a13 a14 a15 a16 a17 x) c (tripP a0 a1 a10 a11 a12 a13 a2 a14 a15 a16 a17 x.w1 x.b1 x.w2 x.b2 x.w3 (b3At x)) s ⟨⟩ (tripSt x s) := by
  have hb := Does_blocks (c := c) a0 a1 a2 a3 a4 a5 a6 a7 a8 a9 a10 a11 a12 a13 a14 a15 a16 a17 x (saveSt s) 16 (Nat.le_refl 16)
  have hc := Does_calib (c := c) a0 a1 a2 a3 a4 a5 a6 a7 a8 a9 a10 a11 a12 a13 a14 a15 a16 a17 x (blksSt x (saveSt s) 16 (Nat.le_refl 16))
  exact Does.bind (Does_save a0 a1 a2 a3 a4 a5 a6 a7 a8 a9 a10 a11 a12 a13 a14 a15 a16 a17 x s) (Does.bind hb hc)

/-- The ten iterations. -/
theorem Does_loop : Does (Res c a0 a1 a2 a3 a4 a5 a6 a7 a8 a9 a10 a11 a12 a13 a14 a15 a16 a17 x) c (Scf.Loop.for k0_t1_loop k0_t1_ok PUnit.unit fun _ _ =>
    tripP a0 a1 a10 a11 a12 a13 a2 a14 a15 a16 a17 x.w1 x.b1 x.w2 x.b2 x.w3 (b3At x)) s ⟨⟩ ((tripSt x)^[10] s) := by
  intro E K
  have ht : Scf.trips k0_t1_loop.lb k0_t1_loop.ub k0_t1_loop.st = 10 := by decide
  have hbody : ∀ (k : Fin (Scf.trips k0_t1_loop.lb k0_t1_loop.ub k0_t1_loop.st)) (acc : PUnit),
      Res c a0 a1 a2 a3 a4 a5 a6 a7 a8 a9 a10 a11 a12 a13 a14 a15 a16 a17 x ((tripSt x)^[k.val] s) ⊢ wp frame (wpE (defs₀ (F := F)) Variants.none (c : Thread nD τ) none) E
        (tripP a0 a1 a10 a11 a12 a13 a2 a14 a15 a16 a17 x.w1 x.b1 x.w2 x.b2 x.w3 (b3At x))
        (fun _ => Res c a0 a1 a2 a3 a4 a5 a6 a7 a8 a9 a10 a11 a12 a13 a14 a15 a16 a17 x ((tripSt x)^[k.val + 1] s)) := by
    intro k acc
    iintro H
    iapply (Does_trip a0 a1 a2 a3 a4 a5 a6 a7 a8 a9 a10 a11 a12 a13 a14 a15 a16 a17 x _ E _)
    isplitl [H]; · iexact H
    iintro H
    rw [Function.iterate_succ_apply']
    iexact H
  iintro ⟨H, Hk⟩
  iapply (Scf.wp_for frame (wpE (defs₀ (F := F)) Variants.none (c : Thread nD τ) none) E k0_t1_loop.lb k0_t1_loop.ub k0_t1_loop.st
    k0_t1_ok PUnit.unit _ (fun k _ => Res c a0 a1 a2 a3 a4 a5 a6 a7 a8 a9 a10 a11 a12 a13 a14 a15 a16 a17 x ((tripSt x)^[k] s)) hbody)
  isplitl [H]; · iexact H
  iintro %acc H
  iapply Hk
  rw [ht]
  iexact H

/-- Everything up to the first channel's final column sums. -/
theorem Does_main : Does (Res c a0 a1 a2 a3 a4 a5 a6 a7 a8 a9 a10 a11 a12 a13 a14 a15 a16 a17 x) c (mainP a0 a1 a2 a3 a4 a5 a6 a7 a8 a10 a11 a12 a13 a14 a15 a16 a17) s (colSum (loopSt x s).t0) (loopSt x s) := by
  unfold mainP
  refine Does.bind (Does_st10 a0 a1 a2 a3 a4 a5 a6 a7 a8 a9 a10 a11 a12 a13 a14 a15 a16 a17 x s _) ?_
  refine Does.bind (Does_st11 a0 a1 a2 a3 a4 a5 a6 a7 a8 a9 a10 a11 a12 a13 a14 a15 a16 a17 x _ _) ?_
  refine Does.bind (Does_st12 a0 a1 a2 a3 a4 a5 a6 a7 a8 a9 a10 a11 a12 a13 a14 a15 a16 a17 x _ _) ?_
  refine Does.bind (Does_st13 a0 a1 a2 a3 a4 a5 a6 a7 a8 a9 a10 a11 a12 a13 a14 a15 a16 a17 x _ _) ?_
  refine Does.bind (a := x.w1) ((Does.load _ _ (foc3 a0 a1 a2 a3 a4 a5 a6 a7 a8 a9 a10 a11 a12 a13 a14 a15 a16 a17 x _) rfl).cast (funext fun y => congrArg x.w1 (Rect.emb_unit_full _ y)) rfl) ?_
  refine Does.bind (a := x.b1) ((Does.load _ _ (foc4 a0 a1 a2 a3 a4 a5 a6 a7 a8 a9 a10 a11 a12 a13 a14 a15 a16 a17 x _) rfl).cast (funext fun y => congrArg x.b1 (Rect.emb_unit_full _ y)) rfl) ?_
  refine Does.bind (a := x.w2) ((Does.load _ _ (foc5 a0 a1 a2 a3 a4 a5 a6 a7 a8 a9 a10 a11 a12 a13 a14 a15 a16 a17 x _) rfl).cast (funext fun y => congrArg x.w2 (Rect.emb_unit_full _ y)) rfl) ?_
  refine Does.bind (a := x.b2) ((Does.load _ _ (foc6 a0 a1 a2 a3 a4 a5 a6 a7 a8 a9 a10 a11 a12 a13 a14 a15 a16 a17 x _) rfl).cast (funext fun y => congrArg x.b2 (Rect.emb_unit_full _ y)) rfl) ?_
  refine Does.bind (a := x.w3) ((Does.load _ _ (foc7 a0 a1 a2 a3 a4 a5 a6 a7 a8 a9 a10 a11 a12 a13 a14 a15 a16 a17 x _) rfl).cast (funext fun y => congrArg x.w3 (Rect.emb_unit_full _ y)) rfl) ?_
  refine Does.bind (a := b3At x) (Does.word _ _ _ (foc8 a0 a1 a2 a3 a4 a5 a6 a7 a8 a9 a10 a11 a12 a13 a14 a15 a16 a17 x _) rfl) ?_
  simp only [shapeCast_self]
  refine Does.bind (Does_loop a0 a1 a2 a3 a4 a5 a6 a7 a8 a9 a10 a11 a12 a13 a14 a15 a16 a17 x (zeroSt s)) ?_
  refine Does.bind (Does_ld12 a0 a1 a2 a3 a4 a5 a6 a7 a8 a9 a10 a11 a12 a13 a14 a15 a16 a17 x _) ?_
  exact Does.pure _ _

/-- A rectangle of the output read. -/
theorem Does_ldo (r : Rect S128x2) (hl : a9.view.LoadsAt r.toLoadRect) :
    Does (Res c a0 a1 a2 a3 a4 a5 a6 a7 a8 a9 a10 a11 a12 a13 a14 a15 a16 a17 x) c (Prog.lift (.load a9 r.toLoadRect hl)) s (fun y => s.out (r.emb y)) s := Does.load _ _ (foc9 a0 a1 a2 a3 a4 a5 a6 a7 a8 a9 a10 a11 a12 a13 a14 a15 a16 a17 x s) rfl
/-- A rectangle of the output written. -/
theorem Does_sto (r : Rect S128x2) (w : r.shape.Idx → Elt F .f32) (hx : (a9.access r).Stores Finset.univ)
    (hm : Finset.univ = Finset.univ ∨ ∀ a, r.stride a = 1) :
    Does (Res c a0 a1 a2 a3 a4 a5 a6 a7 a8 a9 a10 a11 a12 a13 a14 a15 a16 a17 x) c (Prog.lift (.store a9 r w Finset.univ hx hm)) s ⟨⟩ { s with out := r.overlay s.out w } := Does.store _ _ _ _ (foc9 a0 a1 a2 a3 a4 a5 a6 a7 a8 a9 a10 a11 a12 a13 a14 a15 a16 a17 x s) rfl

/-- The output's two columns. -/
theorem Does_out : Does (Res c a0 a1 a2 a3 a4 a5 a6 a7 a8 a9 a10 a11 a12 a13 a14 a15 a16 a17 x) c (outP a13 a2 a9 (colSum s.t0)) s ⟨⟩ { s with out := outV x s } := by
  unfold outP
  refine Does.bind (Does_col a0 a1 a2 a3 a4 a5 a6 a7 a8 a9 a10 a11 a12 a13 a14 a15 a16 a17 x s) ?_
  refine Does.bind (Does_ld13 a0 a1 a2 a3 a4 a5 a6 a7 a8 a9 a10 a11 a12 a13 a14 a15 a16 a17 x s) ?_
  refine Does.bind (Does_col a0 a1 a2 a3 a4 a5 a6 a7 a8 a9 a10 a11 a12 a13 a14 a15 a16 a17 x s) ?_
  refine Does.bind (Does_ldo a0 a1 a2 a3 a4 a5 a6 a7 a8 a9 a10 a11 a12 a13 a14 a15 a16 a17 x s _ _) ?_
  refine Does.bind (Does_sto a0 a1 a2 a3 a4 a5 a6 a7 a8 a9 a10 a11 a12 a13 a14 a15 a16 a17 x s _ _ _ _) ?_
  refine Does.bind (Does_ldo a0 a1 a2 a3 a4 a5 a6 a7 a8 a9 a10 a11 a12 a13 a14 a15 a16 a17 x _ _ _) ?_
  exact Does_sto a0 a1 a2 a3 a4 a5 a6 a7 a8 a9 a10 a11 a12 a13 a14 a15 a16 a17 x _ _ _ _ _

/-- The whole kernel. -/
theorem Does_kernel : Does (Res c a0 a1 a2 a3 a4 a5 a6 a7 a8 a9 a10 a11 a12 a13 a14 a15 a16 a17 x) c (kernelP a0 a1 a2 a3 a4 a5 a6 a7 a8 a9 a10 a11 a12 a13 a14 a15 a16 a17) s ⟨⟩
    { loopSt x s with out := outV x (loopSt x s) } := by
  unfold kernelP
  exact Does.bind (Does_main a0 a1 a2 a3 a4 a5 a6 a7 a8 a9 a10 a11 a12 a13 a14 a15 a16 a17 x s) (Does_out a0 a1 a2 a3 a4 a5 a6 a7 a8 a9 a10 a11 a12 a13 a14 a15 a16 a17 x (loopSt x s))

end Prog

end Triples

end Cert.KernelIdeal.Bp

end
-- ==== Proof.Launch.lean ====
/- The launch: the kernel's body at the pipeline's one point, the whole run, what it leaves in the result and in the arguments. -/
module

public import proofs.«01_k».proof.Proof.Run
public import Idealize.ShloMosaic.Lib.Claim

@[expose] public section

set_option maxRecDepth 16384

noncomputable section

namespace Cert.KernelIdeal.Bp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Facts Cert.KernelIdeal.Gen

variable {F : FTy → Type} [FloatOps F]

local notation "𝕄" => MT nD τ sig Unit (Elt F) ℕ (UR sig nD τ) ℕ

/-! ## The result does not depend on what the scratch held -/

/-- The state with the output replaced. -/
def withOut (s : St F) (o : Vec F S128x2 .f32) : St F := { s with out := o }

/-- Storing a block's lanes commutes with replacing the output. -/
theorem putSt_withOut (B : Nat) (h : B < 16) (s : St F) (o : Vec F S128x2 .f32) (L : Lanes F) :
    putSt B h (withOut s o) L = withOut (putSt B h s L) o := rfl
/-- A block's lanes do not read the output. -/
theorem blkLanes_withOut (x : Ins F) (B : Nat) (h : B < 16) (s : St F) (o : Vec F S128x2 .f32) :
    blkLanes x B h (withOut s o) = blkLanes x B h s := by
  unfold blkLanes
  rw [show (withOut s o).t0 = s.t0 from rfl, show (withOut s o).t1 = s.t1 from rfl]

/-- The blocks commute with replacing the output. -/
theorem blksSt_withOut (x : Ins F) (s : St F) (o : Vec F S128x2 .f32) : (n : Nat) → (h : n ≤ 16) →
    blksSt x (withOut s o) n h = withOut (blksSt x s n h) o
  | 0, _ => by unfold blksSt; rfl
  | n + 1, h => by
    unfold blksSt
    rw [blksSt_withOut x s o n]
    unfold blkSt
    rw [blkLanes_withOut, putSt_withOut]

/-- The first gate does not read the output. -/
theorem al0_withOut (x : Ins F) (s : St F) (o : Vec F S128x2 .f32) : al0 x (withOut s o) = al0 x s := by
  unfold al0 withOut; dsimp only
/-- The second gate does not read the output. -/
theorem al1_withOut (x : Ins F) (s : St F) (o : Vec F S128x2 .f32) : al1 x (withOut s o) = al1 x s := by
  unfold al1 withOut; dsimp only
/-- The first calibration commutes with replacing the output. -/
theorem cal0_withOut (x : Ins F) (s : St F) (o : Vec F S128x2 .f32) : cal0 x (withOut s o) = withOut (cal0 x s) o := by
  unfold cal0; rw [al0_withOut]; unfold withOut; dsimp only
/-- The second calibration commutes with replacing the output. -/
theorem cal1_withOut (x : Ins F) (s : St F) (o : Vec F S128x2 .f32) : cal1 x (withOut s o) = withOut (cal1 x s) o := by
  unfold cal1; rw [al1_withOut]; unfold withOut; dsimp only

/-- An iteration commutes with replacing the output. -/
theorem tripSt_withOut (x : Ins F) (s : St F) (o : Vec F S128x2 .f32) : tripSt x (withOut s o) = withOut (tripSt x s) o := by
  unfold tripSt
  rw [show saveSt (withOut s o) = withOut (saveSt s) o from rfl, blksSt_withOut, cal0_withOut, cal1_withOut]

/-- The iterations commute with replacing the output. -/
theorem iterate_withOut (x : Ins F) (o : Vec F S128x2 .f32) (n : Nat) (s : St F) :
    (tripSt x)^[n] (withOut s o) = withOut ((tripSt x)^[n] s) o := by
  induction n generalizing s with
  | zero => rfl
  | succ n ih => rw [Function.iterate_succ_apply, Function.iterate_succ_apply, tripSt_withOut, ih]

/-- A state with everything zero. -/
def st0 : St F := ⟨broadcast S128x2 (Scalar.ofBits .f32 0x00000000#32), zeroM, zeroM, zeroM, zeroM, zeroM, zeroM, zeroM, zeroM⟩

/-- An iteration first overwrites what the kept messages held. -/
theorem tripSt_zeroSt (x : Ins F) (s : St F) : tripSt x (zeroSt s) = withOut (tripSt x st0) s.out := by
  rw [← tripSt_withOut]
  unfold tripSt
  rw [show saveSt (zeroSt s) = saveSt (withOut st0 s.out) from rfl]

/-- The loop is ten iterations from zero, whatever the scratch held. -/
theorem loopSt_eq (x : Ins F) (s : St F) : loopSt x s = withOut ((tripSt x)^[10] st0) s.out := by
  unfold loopSt
  rw [Function.iterate_succ_apply, tripSt_zeroSt, iterate_withOut, ← Function.iterate_succ_apply (tripSt x) 9]

/-- The kernel's result: the normalised beliefs of the messages after ten iterations from zero. -/
def outK (x : Ins F) : Vec F S128x2 .f32 := outV x ((tripSt x)^[10] st0)

/-- The two columns written are the whole output. -/
theorem overlay_cover (X X' : Vec F S128x2 .f32) (u v : Vec F S128x1 .f32) :
    rectO1.overlay (rectO0.overlay X u) v = rectO1.overlay (rectO0.overlay X' u) v := by
  funext y
  by_cases h1 : y ∈ rectO1.set
  · rw [← Rect.map_emb_univ] at h1
    obtain ⟨z, -, rfl⟩ := Finset.mem_map.mp h1
    rw [Rect.overlay_emb, Rect.overlay_emb]
  · rw [Rect.overlay_of_not_mem _ _ _ h1, Rect.overlay_of_not_mem _ _ _ h1]
    have h0 : y ∈ rectO0.set := by
      rw [Rect.mem_set_unit] at h1 ⊢
      intro a
      have hy0 := (y 0).isLt
      have hy1 := (y 1).isLt
      fin_cases a
      · exact ⟨Nat.zero_le _, by simpa using hy0⟩
      · refine ⟨Nat.zero_le _, ?_⟩
        by_contra hc
        apply h1
        intro a
        fin_cases a
        · exact ⟨Nat.zero_le _, by simpa using hy0⟩
        · simp [S128x2, S128x1] at hc hy1 ⊢; omega
    rw [← Rect.map_emb_univ] at h0
    obtain ⟨z, -, rfl⟩ := Finset.mem_map.mp h0
    rw [Rect.overlay_emb, Rect.overlay_emb]

/-- The result is the same whatever the scratch and the output held. -/
theorem outV_loopSt (x : Ins F) (s : St F) : outV x (loopSt x s) = outK x := by
  rw [loopSt_eq]
  unfold outK outV
  exact overlay_cover _ _ _ _

/-! ## The pipeline's one point -/

variable (m : (ℓ : Loc nD τ sig) → Buf (Elt F) ℓ) (ρ : Dev nD → PrngReg)

/-- The kernel's inputs at a point: the windows' blocks. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- The proof data: the inputs stay, the output ends at the kernel's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outK (insAt m c t)
  Φ _ := Pipeline.ΦA spec0 c
  q _ := fullShare
  owed _ := 0

/-- The windows' arrays are what the region finds. -/
theorem A_eq (c : Dev nD) (w : Fin cfg0.W) : (dats m 0 c).A w = V m c (Pipeline.arrRef spec0 w) := by
  dsimp only [dats]

/-- What the body leaves in window 0's memref. -/
theorem after0 (c : Dev nD) (t : Fin cfg0.N) : (dats m 0 c).after 0 t = iblk m c 0 t := by dsimp only [dats]
/-- What the body leaves in window 1's memref. -/
theorem after1 (c : Dev nD) (t : Fin cfg0.N) : (dats m 0 c).after 1 t = iblk m c 1 t := by dsimp only [dats]
/-- What the body leaves in window 2's memref. -/
theorem after2 (c : Dev nD) (t : Fin cfg0.N) : (dats m 0 c).after 2 t = iblk m c 2 t := by dsimp only [dats]
/-- What the body leaves in window 3's memref. -/
theorem after3 (c : Dev nD) (t : Fin cfg0.N) : (dats m 0 c).after 3 t = iblk m c 3 t := by dsimp only [dats]
/-- What the body leaves in window 4's memref. -/
theorem after4 (c : Dev nD) (t : Fin cfg0.N) : (dats m 0 c).after 4 t = iblk m c 4 t := by dsimp only [dats]
/-- What the body leaves in window 5's memref. -/
theorem after5 (c : Dev nD) (t : Fin cfg0.N) : (dats m 0 c).after 5 t = iblk m c 5 t := by dsimp only [dats]
/-- What the body leaves in window 6's memref. -/
theorem after6 (c : Dev nD) (t : Fin cfg0.N) : (dats m 0 c).after 6 t = iblk m c 6 t := by dsimp only [dats]
/-- What the body leaves in window 7's memref. -/
theorem after7 (c : Dev nD) (t : Fin cfg0.N) : (dats m 0 c).after 7 t = iblk m c 7 t := by dsimp only [dats]
/-- What the body leaves in window 8's memref. -/
theorem after8 (c : Dev nD) (t : Fin cfg0.N) : (dats m 0 c).after 8 t = iblk m c 8 t := by dsimp only [dats]
/-- What the body leaves in window 9's memref. -/
theorem after9 (c : Dev nD) (t : Fin cfg0.N) : (dats m 0 c).after 9 t = outK (insAt m c t) := by dsimp only [dats]
/-- What the body finds in window 0's memref. -/
theorem before0 (c : Dev nD) (t : Fin cfg0.N) (d) : (dats m 0 c).before 0 t d = iblk m c 0 t :=
  before0_0_of m (dats m 0 c) (A_eq m c 0) (after0 m c) t d
/-- What the body finds in window 1's memref. -/
theorem before1 (c : Dev nD) (t : Fin cfg0.N) (d) : (dats m 0 c).before 1 t d = iblk m c 1 t :=
  before0_1_of m (dats m 0 c) (A_eq m c 1) (after1 m c) t d
/-- What the body finds in window 2's memref. -/
theorem before2 (c : Dev nD) (t : Fin cfg0.N) (d) : (dats m 0 c).before 2 t d = iblk m c 2 t :=
  before0_2_of m (dats m 0 c) (A_eq m c 2) (after2 m c) t d
/-- What the body finds in window 3's memref. -/
theorem before3 (c : Dev nD) (t : Fin cfg0.N) (d) : (dats m 0 c).before 3 t d = iblk m c 3 t :=
  before0_3_of m (dats m 0 c) (A_eq m c 3) (after3 m c) t d
/-- What the body finds in window 4's memref. -/
theorem before4 (c : Dev nD) (t : Fin cfg0.N) (d) : (dats m 0 c).before 4 t d = iblk m c 4 t :=
  before0_4_of m (dats m 0 c) (A_eq m c 4) (after4 m c) t d
/-- What the body finds in window 5's memref. -/
theorem before5 (c : Dev nD) (t : Fin cfg0.N) (d) : (dats m 0 c).before 5 t d = iblk m c 5 t :=
  before0_5_of m (dats m 0 c) (A_eq m c 5) (after5 m c) t d
/-- What the body finds in window 6's memref. -/
theorem before6 (c : Dev nD) (t : Fin cfg0.N) (d) : (dats m 0 c).before 6 t d = iblk m c 6 t :=
  before0_6_of m (dats m 0 c) (A_eq m c 6) (after6 m c) t d
/-- What the body finds in window 7's memref. -/
theorem before7 (c : Dev nD) (t : Fin cfg0.N) (d) : (dats m 0 c).before 7 t d = iblk m c 7 t :=
  before0_7_of m (dats m 0 c) (A_eq m c 7) (after7 m c) t d
/-- What the body finds in window 8's memref. -/
theorem before8 (c : Dev nD) (t : Fin cfg0.N) (d) : (dats m 0 c).before 8 t d = iblk m c 8 t :=
  before0_8_of m (dats m 0 c) (A_eq m c 8) (after8 m c) t d

/-- Each window's staging memref at a point, and the scratch memrefs. -/
abbrev wm0 (t : Fin cfg0.N) : Memref sig .tc .vmem S128x128 .f32 := win0_0.stage (cfg0.slots t 0)
/-- Window 1's memref at a point. -/
abbrev wm1 (t : Fin cfg0.N) : Memref sig .tc .smem S128 .f32 := win0_1.stage (cfg0.slots t 1)
/-- Window 2's memref at a point. -/
abbrev wm2 (t : Fin cfg0.N) : Memref sig .tc .vmem S128x1 .f32 := win0_2.stage (cfg0.slots t 2)
/-- Window 3's memref at a point. -/
abbrev wm3 (t : Fin cfg0.N) : Memref sig .tc .vmem S64x4 .f32 := win0_3.stage (cfg0.slots t 3)
/-- Window 4's memref at a point. -/
abbrev wm4 (t : Fin cfg0.N) : Memref sig .tc .vmem S64x1 .f32 := win0_4.stage (cfg0.slots t 4)
/-- Window 5's memref at a point. -/
abbrev wm5 (t : Fin cfg0.N) : Memref sig .tc .vmem S64x64 .f32 := win0_5.stage (cfg0.slots t 5)
/-- Window 6's memref at a point. -/
abbrev wm6 (t : Fin cfg0.N) : Memref sig .tc .vmem S64x1 .f32 := win0_6.stage (cfg0.slots t 6)
/-- Window 7's memref at a point. -/
abbrev wm7 (t : Fin cfg0.N) : Memref sig .tc .vmem S1x64 .f32 := win0_7.stage (cfg0.slots t 7)
/-- Window 8's memref at a point. -/
abbrev wm8 (t : Fin cfg0.N) : Memref sig .tc .smem S1 .f32 := win0_8.stage (cfg0.slots t 8)
/-- Window 9's memref at a point. -/
abbrev wm9 (t : Fin cfg0.N) : Memref sig .tc .vmem S128x2 .f32 := win0_9.stage (cfg0.slots t 9)
/-- Scratch matrix 0. -/
abbrev sc0 : MW := Memref.whole cc0_scratch0
/-- Scratch matrix 1. -/
abbrev sc1 : MW := Memref.whole cc0_scratch1
/-- Scratch matrix 2. -/
abbrev sc2 : MW := Memref.whole cc0_scratch2
/-- Scratch matrix 3. -/
abbrev sc3 : MW := Memref.whole cc0_scratch3
/-- Scratch matrix 4. -/
abbrev sc4 : MW := Memref.whole cc0_scratch4
/-- Scratch matrix 5. -/
abbrev sc5 : MW := Memref.whole cc0_scratch5
/-- Scratch matrix 6. -/
abbrev sc6 : MW := Memref.whole cc0_scratch6
/-- Scratch matrix 7. -/
abbrev sc7 : MW := Memref.whole cc0_scratch7

/-- The pipeline's invariant: the scratch memrefs at some contents and the generator's register. -/
theorem inv_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-- What the body starts from, -/
def bodyPre (c : Dev nD) (t : Fin cfg0.N) : sProp 𝕄 :=
  iprop((dats m 0 c).Φ t.castSucc ∗ (dats m 0 c).owesAt () t.castSucc
    ∗ (∃ d, owns (c : Thread nD τ) (wm0 t) fullShare ((dats m 0 c).before 0 t d)) ∗ (∃ d, owns (c : Thread nD τ) (wm1 t) fullShare ((dats m 0 c).before 1 t d)) ∗ (∃ d, owns (c : Thread nD τ) (wm2 t) fullShare ((dats m 0 c).before 2 t d)) ∗ (∃ d, owns (c : Thread nD τ) (wm3 t) fullShare ((dats m 0 c).before 3 t d)) ∗ (∃ d, owns (c : Thread nD τ) (wm4 t) fullShare ((dats m 0 c).before 4 t d)) ∗ (∃ d, owns (c : Thread nD τ) (wm5 t) fullShare ((dats m 0 c).before 5 t d)) ∗ (∃ d, owns (c : Thread nD τ) (wm6 t) fullShare ((dats m 0 c).before 6 t d)) ∗ (∃ d, owns (c : Thread nD τ) (wm7 t) fullShare ((dats m 0 c).before 7 t d)) ∗ (∃ d, owns (c : Thread nD τ) (wm8 t) fullShare ((dats m 0 c).before 8 t d)) ∗ (∃ d, owns (c : Thread nD τ) (wm9 t) fullShare ((dats m 0 c).before 9 t d)))

/-- and what it ends with. -/
def bodyPost (c : Dev nD) (t : Fin cfg0.N) : sProp 𝕄 :=
  iprop((dats m 0 c).Φ t.succ ∗ (dats m 0 c).owesAt () t.succ
    ∗ owns (c : Thread nD τ) (wm0 t) fullShare ((dats m 0 c).after 0 t) ∗ owns (c : Thread nD τ) (wm1 t) fullShare ((dats m 0 c).after 1 t) ∗ owns (c : Thread nD τ) (wm2 t) fullShare ((dats m 0 c).after 2 t) ∗ owns (c : Thread nD τ) (wm3 t) fullShare ((dats m 0 c).after 3 t) ∗ owns (c : Thread nD τ) (wm4 t) fullShare ((dats m 0 c).after 4 t) ∗ owns (c : Thread nD τ) (wm5 t) fullShare ((dats m 0 c).after 5 t) ∗ owns (c : Thread nD τ) (wm6 t) fullShare ((dats m 0 c).after 6 t) ∗ owns (c : Thread nD τ) (wm7 t) fullShare ((dats m 0 c).after 7 t) ∗ owns (c : Thread nD τ) (wm8 t) fullShare ((dats m 0 c).after 8 t) ∗ owns (c : Thread nD τ) (wm9 t) fullShare ((dats m 0 c).after 9 t))

set_option maxHeartbeats 1600000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = Pipeline.ΦA spec0 c from rfl, inv_eq, kernel_eq]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Does_kernel (c := c) _ _ _ _ _ _ _ _ _ _ _ _ _ _ _ _ _ _ (insAt m c t) ⟨(dats m 0 c).before 9 t d9, s0, s1, s2, s3, s4, s5, s6, s7⟩ Set.univ _)
  rw [outV_loopSt]
  unfold Res
  isplitl [H0 H1 H2 H3 H4 H5 H6 H7 H8 H9 HS0 HS1 HS2 HS3 HS4 HS5 HS6 HS7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iintro ⟨H0, H1, H2, H3, H4, H5, H6, H7, H8, H9, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      iexists _; iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's entry is the kernel's body at a point. -/
theorem defs₀_row (t : Fin cfg0.N) :
    defs₀ (F := F) .tc cfg0.body (cfg0.bodyArgs t (cfg0.slots t)) = bodyAt0 t := by
  unfold defs₀; rw [Defs.onTc_tc]

/-- The pipeline's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end at what the proof data say, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.1) (run_main m ρ))

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main m ρ))

end Cert.KernelIdeal.Bp

end
-- ==== Proof.KFrame.lean ====
/- The printed kernel's frame: its text is the idealized kernel's, so its frame is that kernel's at machine floats. -/
module

public import proofs.«01_k».proof.Proof.Launch
public import proofs.«01_k».proof.Proof.Gen.Kernel

@[expose] public section

set_option maxRecDepth 16384

noncomputable section

namespace Cert.Kernel.Bp

open Idealize.ShloMosaic Idealize.ShloMosaic.TcCoe
open Idealize.SL Idealize.SL.Sem

variable {F : FTy → Type} [FloatOps F]

/-- What the frame says of the printed kernel, -/
def Frame (m : (ℓ : Loc Cert.Kernel.nD Cert.Kernel.τ Cert.Kernel.sig) → Buf (Elt F) ℓ) (ρ : Dev Cert.Kernel.nD → PrngReg) : Prop :=
  θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

/-- and of the idealized one. -/
def FrameI (m : (ℓ : Loc Cert.KernelIdeal.nD Cert.KernelIdeal.τ Cert.KernelIdeal.sig) → Buf (Elt F) ℓ) (ρ : Dev Cert.KernelIdeal.nD → PrngReg) : Prop :=
  θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- They are the same statement. -/
theorem frame_same : @Eq ((m : (ℓ : Loc Cert.Kernel.nD Cert.Kernel.τ Cert.Kernel.sig) → Buf (Elt F) ℓ) → (Dev Cert.Kernel.nD → PrngReg) → Prop) (Frame (F := F)) (FrameI (F := F)) := by
  chain_rfl

/-- The printed kernel leaves its arguments as they were and every counter at zero. -/
theorem frame (m : (ℓ : Loc Cert.Kernel.nD Cert.Kernel.τ Cert.Kernel.sig) → Buf (Elt F) ℓ) (ρ : Dev Cert.Kernel.nD → PrngReg) : Frame m ρ := by
  rw [frame_same]
  exact Cert.KernelIdeal.Bp.frame (F := F) m ρ

end Cert.Kernel.Bp

end
-- ==== Proof.RefFrame.lean ====
/- The reference's run: it leaves its arguments unchanged and, having no semaphore, every counter at zero. -/
module

public import proofs.«01_k».proof.Proof.Gen.ReferenceIdeal.Run
public import Idealize.ShloMosaic.Lib.Claim

@[expose] public section

noncomputable section

namespace Cert.ReferenceIdeal.Bp

open Idealize.ShloMosaic Idealize.ShloMosaic.TcCoe
open Idealize.SL Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- The program has no semaphore. -/
theorem no_sem (g : GSem nD τ sig) : False := by
  rcases g with ⟨⟨d, p⟩, s⟩
  rcases p with _ | _ | _ <;> rcases s with s | s <;> exact s.elim0

/-- The arguments end as they were and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h c).2, funext fun g => (no_sem g).elim⟩) (run m ρ)

end Cert.ReferenceIdeal.Bp

end
-- ==== Proof.Model.lean ====
/- Belief propagation with the calibrated mixture, as plain functions on extended reals: what both programs compute. -/
module

public import Idealize.ShloMosaic.Lib.Pointwise

@[expose] public section

noncomputable section

namespace Cert.Bp

open Idealize.ShloMosaic

/-- A number for every ordered pair of nodes. -/
abbrev Mat := Fin 128 → Fin 128 → EReal

/-- The inputs: couplings, biases, and the calibration network's weights. -/
structure Par where
  J : Mat
  b : Fin 128 → EReal
  W1 : Fin 4 → Fin 64 → EReal
  b1 : Fin 64 → EReal
  W2 : Fin 64 → Fin 64 → EReal
  b2 : Fin 64 → EReal
  W3 : Fin 64 → EReal
  b3 : EReal

/-- The messages, one matrix per state of the variable; row `j`, column `i` is the message from `j` to `i`. -/
@[ext] structure Msg where
  m0 : Mat
  m1 : Mat

/-- The logarithm of the sum of two exponentials. -/
def lse (x y : EReal) : EReal := Ideal.log (Ideal.exp x + Ideal.exp y)

/-- What node `i` holds for its first state without the message of node `l`. -/
def cav0 (p : Par) (s : Msg) (i l : Fin 128) : EReal := (∑ k : Fin 128, s.m0 k i) - s.m0 l i - p.b i
/-- The same for its second state. -/
def cav1 (p : Par) (s : Msg) (i l : Fin 128) : EReal := (∑ k : Fin 128, s.m1 k i) - s.m1 l i + p.b i

/-- The new messages of node `i`, for the first state of the receiver. -/
def fresh0 (p : Par) (s : Msg) (i l : Fin 128) : EReal := lse (cav0 p s i l + p.J i l) (cav1 p s i l - p.J i l)
/-- And for the second. -/
def fresh1 (p : Par) (s : Msg) (i l : Fin 128) : EReal := lse (cav0 p s i l - p.J i l) (cav1 p s i l + p.J i l)

/-- Node `i` sends its new messages. -/
def upd (p : Par) (i : Fin 128) (s : Msg) : Msg :=
  ⟨Function.update s.m0 i (fresh0 p s i), Function.update s.m1 i (fresh1 p s i)⟩

/-- The first `n` nodes send, one after the other. -/
def upds (p : Par) (s : Msg) : Nat → Msg
  | 0 => s
  | n + 1 => upd p (Fin.ofNat 128 n) (upds p s n)

/-- The calibration network's answer for one pair. -/
def gate (p : Par) (m o f t : EReal) : EReal :=
  Ideal.logistic ((∑ k : Fin 64, (max ((∑ k' : Fin 64, (max ((m * p.W1 0 k' + o * p.W1 1 k' + f * p.W1 2 k' + t * p.W1 3 k')
    + p.b1 k') 0) * p.W2 k' k) + p.b2 k) 0) * p.W3 k) + p.b3)

/-- Node `j`'s belief in its first state, before normalising, and in its second. -/
def belief0 (p : Par) (s : Msg) (j : Fin 128) : EReal := (∑ k : Fin 128, s.m0 k j) - p.b j
/-- The belief of node `j` in state 1. -/
def belief1 (p : Par) (s : Msg) (j : Fin 128) : EReal := (∑ k : Fin 128, s.m1 k j) + p.b j

/-- A mixture of the new and the old message. -/
def blend (a m o : EReal) : EReal := (1 - a) * m + a * o

/-- How much of the old message the first state keeps, for the pair `j`, `i`. -/
def keep0 (p : Par) (o s : Msg) (j i : Fin 128) : EReal :=
  gate p (s.m0 j i) (o.m0 j i) (belief0 p s j) (s.m0 i j + s.m1 i j)
/-- The first state's messages after the mixture. -/
def mixed0 (p : Par) (o s : Msg) (j i : Fin 128) : EReal := blend (keep0 p o s j i) (s.m0 j i) (o.m0 j i)
/-- How much of the old message the second state keeps, once the first state is mixed. -/
def keep1 (p : Par) (o s : Msg) (j i : Fin 128) : EReal :=
  gate p (s.m1 j i) (o.m1 j i) (belief1 p s j) (s.m1 i j + mixed0 p o s i j)
/-- The second state's messages after the mixture. -/
def mixed1 (p : Par) (o s : Msg) (j i : Fin 128) : EReal := blend (keep1 p o s j i) (s.m1 j i) (o.m1 j i)
/-- The mixture of the messages `s` with the messages `o` of the iteration before. -/
def calib (p : Par) (o s : Msg) : Msg := ⟨mixed0 p o s, mixed1 p o s⟩

/-- One iteration: every node sends once, then the mixture with the messages before. -/
def trip (p : Par) (s : Msg) : Msg := calib p s (upds p s 128)
/-- No message at all. -/
def zeroMsg : Msg := ⟨fun _ _ => 0, fun _ _ => 0⟩
/-- The messages after ten iterations. -/
def final (p : Par) : Msg := (trip p)^[10] zeroMsg

/-- Two beliefs normalised, and the first of them. -/
def soft (x y z : EReal) : EReal :=
  Ideal.div (Ideal.exp (z - max x y)) (Ideal.exp (x - max x y) + Ideal.exp (y - max x y))
/-- The normalised belief of node `j` in state `c`. -/
def prob (p : Par) (j : Fin 128) (c : Fin 2) : EReal :=
  soft (belief0 p (final p) j) (belief1 p (final p) j) (if c = 0 then belief0 p (final p) j else belief1 p (final p) j)

/-! ## Rows while the nodes send -/

/-- One more node sent. -/
theorem upds_succ (p : Par) (s : Msg) (n : Nat) (h : n < 128) : upds p s (n + 1) = upd p ⟨n, h⟩ (upds p s n) := by
  have e : Fin.ofNat 128 n = ⟨n, h⟩ := by ext; simp [Fin.ofNat, Nat.mod_eq_of_lt h]
  simp only [upds, e]

/-- The row the update replaces, state 0. -/
theorem upd_m0_same (p : Par) (i : Fin 128) (s : Msg) : (upd p i s).m0 i = fresh0 p s i := by simp [upd]
/-- The row the update replaces, state 1. -/
theorem upd_m1_same (p : Par) (i : Fin 128) (s : Msg) : (upd p i s).m1 i = fresh1 p s i := by simp [upd]
/-- A row the update leaves, state 0. -/
theorem upd_m0_ne (p : Par) {i k : Fin 128} (h : k ≠ i) (s : Msg) : (upd p i s).m0 k = s.m0 k := by simp [upd, h]
/-- A row the update leaves, state 1. -/
theorem upd_m1_ne (p : Par) {i k : Fin 128} (h : k ≠ i) (s : Msg) : (upd p i s).m1 k = s.m1 k := by simp [upd, h]

/-- The nodes from `a` to `a + n` change no other row. -/
theorem upds_keep (p : Par) (s : Msg) (a : Nat) (k : Fin 128) : (n : Nat) → a + n ≤ 128 → (k.val < a ∨ a + n ≤ k.val) →
    (upds p s (a + n)).m0 k = (upds p s a).m0 k ∧ (upds p s (a + n)).m1 k = (upds p s a).m1 k
  | 0, _, _ => ⟨rfl, rfl⟩
  | n + 1, h, hk => by
    have ih := upds_keep p s a k n (by omega) (by omega)
    have ne : k ≠ ⟨a + n, by omega⟩ := by intro e; have := congrArg Fin.val e; simp at this; omega
    rw [← Nat.add_assoc, upds_succ p s (a + n) (by omega), upd_m0_ne p ne, upd_m1_ne p ne]
    exact ih

/-! ## Two forms of the logarithm of a sum of exponentials -/

/-- The logarithm of zero. -/
theorem log_zero : Ideal.log 0 = ⊥ := by
  rw [← EReal.coe_zero, Ideal.log_coe, if_pos le_rfl]
/-- The logarithm of one. -/
theorem log_one : Ideal.log 1 = 0 := by
  rw [← EReal.coe_one, Ideal.log_coe, if_neg (by norm_num)]; simp
/-- The logarithm undoes the exponential of a real. -/
theorem log_exp (a : ℝ) : Ideal.log (Real.exp a : ℝ) = a := by
  rw [Ideal.log_coe, if_neg (not_le.mpr (Real.exp_pos a)), Real.log_exp]

/-- Log-sum-exp is symmetric. -/
theorem lse_comm (x y : EReal) : lse x y = lse y x := by unfold lse; rw [add_comm]

/-- The finite case, the first the smaller. -/
theorem lse_le (a c : ℝ) (h : a ≤ c) :
    max (a : EReal) c + Ideal.log1p (Ideal.exp (0 - max ((a : EReal) - c) (-((a : EReal) - c)))) = lse a c := by
  have hm : max (a : EReal) c = c := max_eq_right (by exact_mod_cast h)
  have hd : max ((a : EReal) - c) (-((a : EReal) - c)) = ((c - a : ℝ) : EReal) := by
    rw [← EReal.coe_sub, ← EReal.coe_neg]
    rw [max_eq_right (by exact_mod_cast (by linarith : a - c ≤ -(a - c)))]
    congr 1; ring
  have h1 : (0 : EReal) - ((c - a : ℝ) : EReal) = ((a - c : ℝ) : EReal) := by
    rw [← EReal.coe_zero, ← EReal.coe_sub]; congr 1; ring
  have hs : Real.exp a + Real.exp c = Real.exp c * (1 + Real.exp (a - c)) := by
    rw [Real.exp_sub]; have := (Real.exp_pos c).ne'; field_simp; ring
  have hp : 0 < 1 + Real.exp (a - c) := by have := Real.exp_pos (a - c); linarith
  rw [hm, hd, h1, Ideal.log1p, lse, Ideal.exp_coe, Ideal.exp_coe, Ideal.exp_coe, ← EReal.coe_one, ← EReal.coe_add, ← EReal.coe_add,
    Ideal.log_coe, Ideal.log_coe, if_neg (not_le.mpr hp), if_neg (not_le.mpr (by positivity)), hs,
    Real.log_mul (Real.exp_pos c).ne' hp.ne', Real.log_exp, EReal.coe_add]

/-- The greater of the two, plus the logarithm of one plus the exponential of minus their distance. -/
theorem lse_eq (x y : EReal) :
    max x y + Ideal.log1p (Ideal.exp (0 - max (x - y) (-(x - y)))) = lse x y := by
  induction x using EReal.rec with
  | bot =>
    induction y using EReal.rec with
    | bot => simp [lse, Ideal.log1p, log_zero]
    | top => simp [lse, Ideal.log1p, log_one]
    | coe r => simp [lse, Ideal.log1p, log_one, not_le.mpr (Real.exp_pos r)]
  | top =>
    induction y using EReal.rec with
    | bot => simp [lse, Ideal.log1p, log_one]
    | top => simp [lse, Ideal.log1p, log_one]
    | coe r => simp [lse, Ideal.log1p, log_one]
  | coe a =>
    induction y using EReal.rec with
    | bot => simp [lse, Ideal.log1p, log_one, not_le.mpr (Real.exp_pos a)]
    | top => simp [lse, Ideal.log1p, log_one]
    | coe c =>
      rcases le_total a c with h | h
      · exact lse_le a c h
      · have e : -((a : EReal) - c) = (c : EReal) - a := by
          rw [← EReal.coe_sub, ← EReal.coe_sub, ← EReal.coe_neg]; congr 1; ring
        have e' : -((c : EReal) - a) = (a : EReal) - c := by
          rw [← EReal.coe_sub, ← EReal.coe_sub, ← EReal.coe_neg]; congr 1; ring
        rw [lse_comm, ← lse_le c a h, max_comm (a : EReal), e, e', max_comm ((a : EReal) - c)]

end Cert.Bp

end
-- ==== Proof.KRead.lean ====
/- The kernel's values read at an index, over the extended reals. -/
module

public import proofs.«01_k».proof.Proof.Prog
public import proofs.«01_k».proof.Proof.Model
public import Idealize.ShloMosaic.Lib.WordCmp

@[expose] public section

set_option maxRecDepth 16384

noncomputable section

namespace Cert.KernelIdeal.Bp

open Idealize.ShloMosaic Idealize.ShloMosaic.WordCmp
open Cert.KernelIdeal Cert.KernelIdeal.Facts₀ Cert.KernelIdeal.Facts Cert.Bp

/-- Small numbers are equal as words just when they are equal. -/
theorem eq_ofNat (a b : Nat) (ha : a < 2 ^ 32) (hb : b < 2 ^ 32) :
    IntOp.cmpi CmpIPredicate.eq (BitVec.ofNat 32 a) (BitVec.ofNat 32 b) = BitVec.ofBool (decide (a = b)) := by
  rw [cmpi_eq_eq]
  congr 1
  exact decide_eq_decide.mpr (ofNat_eq_ofNat_iff ha hb)

/-- A true bit, widened and converted, is one. -/
theorem sitofp_one : FloatOps.sitofp (F := Ideal) FTy.f32 (BitVec.setWidth 32 (BitVec.ofBool true)) = (1 : EReal) := by
  show (((BitVec.setWidth 32 (BitVec.ofBool true)).toInt : ℝ) : EReal) = 1
  have : (BitVec.setWidth 32 (BitVec.ofBool true)).toInt = 1 := by decide
  rw [this]; simp
/-- A false bit, widened and converted, is zero. -/
theorem sitofp_zero : FloatOps.sitofp (F := Ideal) FTy.f32 (BitVec.setWidth 32 (BitVec.ofBool false)) = (0 : EReal) := by
  show (((BitVec.setWidth 32 (BitVec.ofBool false)).toInt : ℝ) : EReal) = 0
  have : (BitVec.setWidth 32 (BitVec.ofBool false)).toInt = 0 := by decide
  rw [this]; simp

/-- A lane of a slab's sum over its first axis. -/
theorem rowSum_apply (row : FVec Ideal S1x128 .f32) (l : Fin 128) :
    rowSum row (ix2 0 l) = ∑ k : Fin 128, row (ix2 0 k) := by
  pointwise [rowSum]
  simp

/-- A lane of the log-sum-exp of two rows. -/
theorem lae_apply (x y : FVec Ideal S1x128 .f32) (l : Fin 128) : lae x y (ix2 0 l) = lse (x (ix2 0 l)) (y (ix2 0 l)) := by
  pointwise [lae]
  rw [← lse_eq]
  rw [if_neg (by simp)]
  rfl

/-- A slab with one row replaced, at an index. -/
theorem putRow_apply (r : Nat) (hr : r < 8) (row : FVec Ideal S1x128 .f32) (slab : FVec Ideal S8x128 .f32) (a : Fin 8) (l : Fin 128) :
    putRow r row slab (ix2 a l) = if a.val = r then row (ix2 0 l) else slab (ix2 a l) := by
  pointwise [putRow, subs]
  rw [eq_ofNat a.val r (by omega) (by omega)]
  by_cases h : a.val = r <;> simp [h, Scalar.select]

/-- The diagonal test of block `B`: row `8 B + a` against lane `l`. -/
theorem diag_apply (B : Nat) (hB : B < 16) (a : Fin 8) (l : Fin 128) :
    diag (F := Ideal) B (ix2 a l) = if l.val = 8 * B + a.val then 1 else 0 := by
  pointwise [diag, subs, lane8]
  have e : IntOp.cmpi CmpIPredicate.eq (IntOp.subi (BitVec.ofNat 32 l.val) (BitVec.ofNat 32 (8 * B))) (BitVec.ofNat 32 a.val)
      = BitVec.ofBool (decide (l.val = 8 * B + a.val)) := by
    rw [cmpi_eq_eq, IntOp.subi]
    congr 1
    apply decide_eq_decide.mpr
    rw [← BitVec.toNat_inj, BitVec.toNat_sub, BitVec.toNat_ofNat, BitVec.toNat_ofNat, BitVec.toNat_ofNat]
    omega
  rw [e]
  by_cases h : l.val = 8 * B + a.val
  · simp only [h, decide_true, if_true]
    exact sitofp_one
  · simp only [h, decide_false, if_false]
    exact sitofp_zero

/-- The column at lane `i` of a slab, picked by a masked sum. -/
theorem colLane_apply (B i : Nat) (hB : B < 16) (hi : i < 128) (slab : FVec Ideal S8x128 .f32) (a : Fin 8) (l : Fin 128)
    (hl : l.val = 8 * B + a.val) : colLane B i slab (ix2 0 l) = slab (ix2 a ⟨i, hi⟩) := by
  pointwise [colLane, lane8]
  have e : ∀ x : Fin 8, (∑ k : Fin 128, Scalar.select (IntOp.cmpi CmpIPredicate.eq (BitVec.ofNat 32 k.val) (BitVec.ofNat 32 i))
      (slab (ix2 x k)) 0) = slab (ix2 x ⟨i, hi⟩) := by
    intro x
    rw [Finset.sum_eq_single (⟨i, hi⟩ : Fin 128)]
    · rw [eq_ofNat _ _ (by omega) (by omega)]; simp [Scalar.select]
    · intro k _ hk
      rw [eq_ofNat _ _ (by omega) (by omega)]
      have : k.val ≠ i := fun h => hk (Fin.ext h)
      simp [Scalar.select, this]
    · simp
  rw [Finset.sum_eq_single a]
  · rw [e a, diag_apply B hB, if_pos hl, mul_one]
  · intro k _ hk
    have : ¬ l.val = 8 * B + k.val := fun h => hk (Fin.ext (by omega))
    rw [diag_apply B hB, if_neg this, mul_zero]
  · simp

/-- The lanes of a slab below the row being sent, replaced by the row just sent. -/
theorem pick_apply (B r : Nat) (hB : B < 16) (hr : r < 7) (slab : FVec Ideal S8x128 .f32) (row : FVec Ideal S1x128 .f32) (l : Fin 128) :
    pick B (r + 1) slab row (ix2 0 l) = if 8 * B ≤ l.val ∧ l.val < 8 * B + (r + 1) then colLane B (8 * B + (r + 1)) slab (ix2 0 l)
      else row (ix2 0 l) := by
  pointwise [pick, lanes]
  rw [cmpi_sge_ofNat (by omega) (by omega), cmpi_slt_ofNat (by omega) (by omega), andi_ofBool, ← Bool.decide_and]
  by_cases h : 8 * B ≤ l.val ∧ l.val < 8 * B + (r + 1)
  · rw [if_pos h, decide_eq_true h]; rfl
  · rw [if_neg h, decide_eq_false h]; rfl

/-- The mixture of new and old messages, at an index. -/
theorem mix_apply (al m o : FVec Ideal S128x128 .f32) (j i : Fin 128) :
    mix al m o (ix2 j i) = blend (al (ix2 j i)) (m (ix2 j i)) (o (ix2 j i)) := by
  pointwise [mix, blend]

/-- A transposed matrix, at an index. -/
theorem tr_apply (al : FVec Ideal S128x128 .f32) (j i : Fin 128) : tr al (ix2 j i) = al (ix2 i j) := by
  pointwise [tr]

/-- A transposed slab, at an index. -/
theorem trSlab_apply (s : FVec Ideal S8x128 .f32) (l : Fin 128) (a : Fin 8) : trSlab s (ix2 l a) = s (ix2 a l) := by
  pointwise [trSlab]

/-- The zero matrix, at an index. -/
theorem zeroM_apply (j i : Fin 128) : zeroM (F := Ideal) (ix2 j i) = 0 := by
  pointwise [zeroM]

/-- The belief in state 0, at a node. -/
theorem bel0_apply (t : FVec Ideal S128x128 .f32) (b : FVec Ideal S128x1 .f32) (j : Fin 128) :
    bel0 t b (ix2 j 0) = (∑ k : Fin 128, t (ix2 j k)) - b (ix2 j 0) := by
  pointwise [bel0, colSum, castCol]

/-- The belief in state 1, at a node. -/
theorem bel1_apply (t : FVec Ideal S128x128 .f32) (b : FVec Ideal S128x1 .f32) (j : Fin 128) :
    bel1 t b (ix2 j 0) = (∑ k : Fin 128, t (ix2 j k)) + b (ix2 j 0) := by
  pointwise [bel1, colSum, castCol]

/-- A column spread over a matrix, at an index. -/
theorem wide_apply (q : FVec Ideal S128x1 .f32) (j i : Fin 128) : wide q (ix2 j i) = q (ix2 j 0) := by
  pointwise [wide, castCol]

/-- The normalised belief in state 0, at a node. -/
theorem prob0_apply (x y : FVec Ideal S128x1 .f32) (j : Fin 128) :
    prob0 x y (ix2 j 0) = soft (x (ix2 j 0)) (y (ix2 j 0)) (x (ix2 j 0)) := by
  pointwise [prob0, soft]
/-- The normalised belief in state 1, at a node. -/
theorem prob1_apply (x y : FVec Ideal S128x1 .f32) (j : Fin 128) :
    prob1 x y (ix2 j 0) = soft (x (ix2 j 0)) (y (ix2 j 0)) (y (ix2 j 0)) := by
  pointwise [prob1, soft]

/-- The network's output at an entry: two hidden layers of 64 and a logistic output. -/
theorem mlp_apply (w1 : FVec Ideal S64x4 .f32) (b1 : FVec Ideal S64x1 .f32) (w2 : FVec Ideal S64x64 .f32) (b2 : FVec Ideal S64x1 .f32)
    (w3 : FVec Ideal S1x64 .f32) (p : Par) (h1 : ∀ k c, w1 (ix2 k c) = p.W1 c k) (h1' : ∀ k, b1 (ix2 k 0) = p.b1 k)
    (h2 : ∀ k k', w2 (ix2 k k') = p.W2 k' k) (h2' : ∀ k, b2 (ix2 k 0) = p.b2 k) (h3 : ∀ k, w3 (ix2 0 k) = p.W3 k) (xm xo xf xs : FVec Ideal S128x128 .f32) (j i : Fin 128) :
    mlp w1 b1 w2 b2 w3 p.b3 xm xo xf xs (ix2 j i) = gate p (xm (ix2 j i)) (xo (ix2 j i)) (xf (ix2 j i)) (xs (ix2 j i)) := by
  pointwise [mlp]
  simp only [h1, h1', h2, h2', h3, Fin.sum_univ_four, gate]
  simp only [mul_comm (p.W3 _), mul_comm (p.W2 _ _), mul_comm (p.W1 _ _)]
  rfl

end Cert.KernelIdeal.Bp

end
-- ==== Proof.KVal.lean ====
/- The kernel's state read as messages: after each block, each iteration and the ten iterations it holds the messages of
   the plain functions, the transposed matrices their transposes. -/
module

public import proofs.«01_k».proof.Proof.Run
public import proofs.«01_k».proof.Proof.KRead

@[expose] public section

set_option maxRecDepth 16384

noncomputable section

namespace Cert.KernelIdeal.Bp

open Idealize.ShloMosaic
open Cert.KernelIdeal Cert.KernelIdeal.Facts₀ Cert.KernelIdeal.Facts Cert.Bp

/-- The kernel's inputs hold the values `p`. -/
structure Reads (x : Ins Ideal) (p : Par) : Prop where
  J : ∀ i l : Fin 128, x.J (ix2 i l) = p.J i l
  bs : ∀ i : Fin 128, x.bs (ix1 i) = p.b i
  bc : ∀ i : Fin 128, x.bc (ix2 i 0) = p.b i
  w1 : ∀ k c, x.w1 (ix2 k c) = p.W1 c k
  b1 : ∀ k, x.b1 (ix2 k 0) = p.b1 k
  w2 : ∀ k k', x.w2 (ix2 k k') = p.W2 k' k
  b2 : ∀ k, x.b2 (ix2 k 0) = p.b2 k
  w3 : ∀ k, x.w3 (ix2 0 k) = p.W3 k
  b3 : b3At x = p.b3

/-- The four message matrices of a state hold the messages `M`. -/
structure Holds (s : St Ideal) (M : Msg) : Prop where
  m0 : ∀ j i : Fin 128, s.m0 (ix2 j i) = M.m0 j i
  m1 : ∀ j i : Fin 128, s.m1 (ix2 j i) = M.m1 j i
  t0 : ∀ j i : Fin 128, s.t0 (ix2 j i) = M.m0 i j
  t1 : ∀ j i : Fin 128, s.t1 (ix2 j i) = M.m1 i j

/-- The four matrices kept from the iteration before hold the messages `O`. -/
structure Kept (s : St Ideal) (O : Msg) : Prop where
  p0 : ∀ j i : Fin 128, s.p0 (ix2 j i) = O.m0 j i
  p1 : ∀ j i : Fin 128, s.p1 (ix2 j i) = O.m1 j i
  q0 : ∀ j i : Fin 128, s.q0 (ix2 j i) = O.m0 i j
  q1 : ∀ j i : Fin 128, s.q1 (ix2 j i) = O.m1 i j

/-! ## Parts of matrices -/

/-- A loaded row, at a lane. -/
theorem rowAt_apply (i : Nat) (h : i < 128) (X : Vec Ideal S128x128 .f32) (l : Fin 128) :
    rowAt i h X (ix2 0 l) = X (ix2 ⟨i, h⟩ l) := by
  unfold rowAt
  congr 1
  funext a
  fin_cases a <;> ext <;> simp [Rect.emb, Rect.unit]

/-- A loaded word. -/
theorem wordAt_apply (i : Nat) (h : i < 128) (X : Vec Ideal S128 .f32) : wordAt i h X = X (ix1 ⟨i, h⟩) := by
  unfold wordAt
  congr 1
  funext a
  fin_cases a
  ext
  simp [Rect.emb, Rect.unit]
  exact Nat.lt_one_iff.mp (Fin.isLt _)

/-- A matrix with block `B` of eight rows overwritten, at an index. -/
theorem setRows_apply (B : Nat) (h : B < 16) (X : Vec Ideal S128x128 .f32) (w : Vec Ideal S8x128 .f32) (j i : Fin 128) :
    setRows B h X w (ix2 j i)
      = if hj : 8 * B ≤ j.val ∧ j.val < 8 * B + 8 then w (ix2 ⟨j.val - 8 * B, by omega⟩ i) else X (ix2 j i) := by
  unfold setRows
  split
  · next hj =>
    have e : (ix2 j i : S128x128.Idx) = (rectR B h).emb (ix2 (⟨j.val - 8 * B, by omega⟩ : Fin 8) i) := by
      funext a
      fin_cases a <;> ext <;> simp [Rect.emb, Rect.unit]
      omega
    rw [e, Rect.overlay_emb]
  · next hj =>
    apply Rect.overlay_of_not_mem
    rw [Rect.mem_set_unit]
    intro hh
    exact hj (hh 0)

/-- A matrix with block `B` of eight columns overwritten, at an index. -/
theorem setCols_apply (B : Nat) (h : B < 16) (X : Vec Ideal S128x128 .f32) (w : Vec Ideal S128x8 .f32) (j i : Fin 128) :
    setCols B h X w (ix2 j i)
      = if hi : 8 * B ≤ i.val ∧ i.val < 8 * B + 8 then w (ix2 j ⟨i.val - 8 * B, by omega⟩) else X (ix2 j i) := by
  unfold setCols
  split
  · next hi =>
    have e : (ix2 j i : S128x128.Idx) = (rectC B h).emb (ix2 j (⟨i.val - 8 * B, by omega⟩ : Fin 8)) := by
      funext a
      fin_cases a <;> ext <;> simp [Rect.emb, Rect.unit]
      omega
    rw [e, Rect.overlay_emb]
  · next hi =>
    apply Rect.overlay_of_not_mem
    rw [Rect.mem_set_unit]
    intro hh
    exact hi (hh 1)

/-! ## One row -/

/-- The rows of a block that are done hold the messages after the nodes so far. -/
def Done (p : Par) (M : Msg) (B n : Nat) (L : Lanes Ideal) : Prop :=
  ∀ (a : Fin 8) (h : 8 * B + a.val < 128), a.val < n → ∀ l : Fin 128,
    L.s0 (ix2 a l) = (upds p M (8 * B + n)).m0 ⟨8 * B + a.val, h⟩ l ∧
    L.s1 (ix2 a l) = (upds p M (8 * B + n)).m1 ⟨8 * B + a.val, h⟩ l

/-- The incoming row of row `n` of a block, with the block's done rows taken from a slab `sl`, is column `8 B + n` of
    any matrix `G` that agrees with the slab on those rows and with the transposed matrix `X` elsewhere. -/
theorem pick_col (B : Nat) (hB : B < 16) (n : Nat) (hn : n < 8) (sl : FVec Ideal S8x128 .f32) (X : Vec Ideal S128x128 .f32) (G : Mat)
    (h1 : ∀ (a : Fin 8) (h : 8 * B + a.val < 128), a.val < n → ∀ l : Fin 128, sl (ix2 a l) = G ⟨8 * B + a.val, h⟩ l)
    (h2 : ∀ l i : Fin 128, l.val < 8 * B ∨ 8 * B + n ≤ l.val → X (ix2 i l) = G l i) (l : Fin 128) :
    pick B n sl (rowAt (8 * B + n) (row_lt hB hn) X) (ix2 0 l) = G l ⟨8 * B + n, row_lt hB hn⟩ := by
  match n, hn, h1, h2 with
  | 0, hn, h1, h2 =>
    show rowAt (8 * B + 0) (row_lt hB hn) X (ix2 0 l) = _
    rw [rowAt_apply]
    exact h2 _ _ (by omega)
  | r + 1, hn, h1, h2 =>
    rw [pick_apply B r hB (by omega)]
    split
    · next hl =>
      rw [colLane_apply B (8 * B + (r + 1)) hB (by omega) sl ⟨l.val - 8 * B, by omega⟩ l (by simp; omega)]
      rw [h1 ⟨l.val - 8 * B, by omega⟩ (by simp; omega) (by simp; omega)]
      congr 1
      ext; simp; omega
    · next hl =>
      rw [rowAt_apply]
      exact h2 _ _ (by omega)

/-- A sum of arrays, at an index. -/
theorem addf_at {s : Shape} (x y : FVec Ideal s .f32) (i : s.Idx) : addf x y i = (x i + y i : EReal) := rfl
/-- A difference of arrays, at an index. -/
theorem subf_at {s : Shape} (x y : FVec Ideal s .f32) (i : s.Idx) : subf x y i = (x i - y i : EReal) := rfl

/-- The local term of state 0, at a lane. -/
theorem loc0_apply (row : FVec Ideal S1x128 .f32) (b : EReal) (l : Fin 128) :
    loc0 row b (ix2 0 l) = (∑ k : Fin 128, row (ix2 0 k)) - row (ix2 0 l) - b := by
  show rowSum row (ix2 0 l) - row (ix2 0 l) - b = _
  rw [rowSum_apply]
/-- The local term of state 1, at a lane. -/
theorem loc1_apply (row : FVec Ideal S1x128 .f32) (b : EReal) (l : Fin 128) :
    loc1 row b (ix2 0 l) = (∑ k : Fin 128, row (ix2 0 k)) - row (ix2 0 l) + b := by
  show rowSum row (ix2 0 l) - row (ix2 0 l) + b = _
  rw [rowSum_apply]

/-- One more row of a block. -/
theorem rowStep_done {x : Ins Ideal} {p : Par} (hx : Reads x p) (M : Msg) (B : Nat) (hB : B < 16) (t0 t1 : Vec Ideal S128x128 .f32)
    (h0 : ∀ j i : Fin 128, t0 (ix2 j i) = (upds p M (8 * B)).m0 i j)
    (h1 : ∀ j i : Fin 128, t1 (ix2 j i) = (upds p M (8 * B)).m1 i j) (n : Nat) (hn : n < 8) (L : Lanes Ideal)
    (hL : Done p M B n L) :
    Done p M B (n + 1) (rowStep n (pick B n L.s0 (rowAt (8 * B + n) (row_lt hB hn) t0))
      (pick B n L.s1 (rowAt (8 * B + n) (row_lt hB hn) t1)) (wordAt (8 * B + n) (row_lt hB hn) x.bs)
      (rowAt (8 * B + n) (row_lt hB hn) x.J) L) := by
  have c0 := pick_col B hB n hn L.s0 t0 (upds p M (8 * B + n)).m0 (fun a h ha l => (hL a h ha l).1)
    (fun l i hl => by rw [h0, (upds_keep p M (8 * B) l n (by omega) hl).1])
  have c1 := pick_col B hB n hn L.s1 t1 (upds p M (8 * B + n)).m1 (fun a h ha l => (hL a h ha l).2)
    (fun l i hl => by rw [h1, (upds_keep p M (8 * B) l n (by omega) hl).2])
  intro a h ha l
  have hi : 8 * B + n < 128 := row_lt hB hn
  rw [← Nat.add_assoc, upds_succ p M (8 * B + n) hi]
  unfold rowStep
  dsimp only
  rw [putRow_apply n hn, putRow_apply n hn]
  split
  · next e =>
    have ei : (⟨8 * B + a.val, h⟩ : Fin 128) = ⟨8 * B + n, hi⟩ := by ext; simp [e]
    rw [ei, upd_m0_same, upd_m1_same, lae_apply, lae_apply]
    simp only [fresh0, fresh1, cav0, cav1]
    refine ⟨congrArg₂ lse ?_ ?_, congrArg₂ lse ?_ ?_⟩
    · rw [addf_at, loc0_apply, rowAt_apply, wordAt_apply, hx.J, hx.bs]; simp only [c0]
    · rw [subf_at, loc1_apply, rowAt_apply, wordAt_apply, hx.J, hx.bs]; simp only [c1]
    · rw [subf_at, loc0_apply, rowAt_apply, wordAt_apply, hx.J, hx.bs]; simp only [c0]
    · rw [addf_at, loc1_apply, rowAt_apply, wordAt_apply, hx.J, hx.bs]; simp only [c1]
  · next e =>
    have ne : (⟨8 * B + a.val, h⟩ : Fin 128) ≠ ⟨8 * B + n, hi⟩ := by
      intro q; have := congrArg Fin.val q; simp at this; exact e (by omega)
    rw [upd_m0_ne p ne, upd_m1_ne p ne]
    exact hL a h (by omega) l

/-- One row of a block sent: the block then holds what the plain update of its node gives. -/
theorem rowSt_done {x : Ins Ideal} {p : Par} (hx : Reads x p) (M : Msg) (B : Nat) (hB : B < 16) (t0 t1 : Vec Ideal S128x128 .f32)
    (h0 : ∀ j i : Fin 128, t0 (ix2 j i) = (upds p M (8 * B)).m0 i j)
    (h1 : ∀ j i : Fin 128, t1 (ix2 j i) = (upds p M (8 * B)).m1 i j) :
    (n : Nat) → (hn : n ≤ 8) → Done p M B n (rowSt x B hB t0 t1 n hn)
  | 0, _ => fun _ _ ha => absurd ha (Nat.not_lt_zero _)
  | n + 1, hn => rowStep_done hx M B hB t0 t1 h0 h1 n hn _ (rowSt_done hx M B hB t0 t1 h0 h1 n (Nat.le_of_succ_le hn))

/-! ## Blocks -/

/-- One block: the next eight nodes send. -/
theorem blk_holds {x : Ins Ideal} {p : Par} (hx : Reads x p) (M : Msg) (B : Nat) (hB : B < 16) (s : St Ideal)
    (hs : Holds s (upds p M (8 * B))) : Holds (blkSt x B hB s) (upds p M (8 * B + 8)) := by
  have hd := rowSt_done hx M B hB s.t0 s.t1 hs.t0 hs.t1 8 (Nat.le_refl 8)
  have d : ∀ (j i : Fin 128) (hj : 8 * B ≤ j.val ∧ j.val < 8 * B + 8),
      (blkLanes x B hB s).s0 (ix2 ⟨j.val - 8 * B, by omega⟩ i) = (upds p M (8 * B + 8)).m0 j i ∧
      (blkLanes x B hB s).s1 (ix2 ⟨j.val - 8 * B, by omega⟩ i) = (upds p M (8 * B + 8)).m1 j i := by
    intro j i hj
    have e : (⟨8 * B + (j.val - 8 * B), by omega⟩ : Fin 128) = j := by ext; simp; omega
    have := hd ⟨j.val - 8 * B, by omega⟩ (by simp; omega) (by simp; omega) i
    simp only [e] at this
    exact this
  have k := fun (j : Fin 128) (hj : ¬ (8 * B ≤ j.val ∧ j.val < 8 * B + 8)) =>
    upds_keep p M (8 * B) j 8 (by omega) (by omega)
  constructor
  · intro j i
    show setRows B hB s.m0 (blkLanes x B hB s).s0 (ix2 j i) = _
    rw [setRows_apply]
    split
    · next hj => exact (d j i hj).1
    · next hj => rw [hs.m0, (k j hj).1]
  · intro j i
    show setRows B hB s.m1 (blkLanes x B hB s).s1 (ix2 j i) = _
    rw [setRows_apply]
    split
    · next hj => exact (d j i hj).2
    · next hj => rw [hs.m1, (k j hj).2]
  · intro j i
    show setCols B hB s.t0 (trSlab (blkLanes x B hB s).s0) (ix2 j i) = _
    rw [setCols_apply]
    split
    · next hj => rw [trSlab_apply]; exact (d i j hj).1
    · next hj => rw [hs.t0, (k i hj).1]
  · intro j i
    show setCols B hB s.t1 (trSlab (blkLanes x B hB s).s1) (ix2 j i) = _
    rw [setCols_apply]
    split
    · next hj => rw [trSlab_apply]; exact (d i j hj).2
    · next hj => rw [hs.t1, (k i hj).2]

/-- A block leaves the old messages kept before the iteration alone. -/
theorem blk_kept {x : Ins Ideal} {O : Msg} (B : Nat) (hB : B < 16) (s : St Ideal) (hs : Kept s O) : Kept (blkSt x B hB s) O :=
  ⟨hs.p0, hs.p1, hs.q0, hs.q1⟩

/-- The blocks: after `n` of them the first `8 n` nodes have sent. -/
theorem blks_holds {x : Ins Ideal} {p : Par} (hx : Reads x p) (M O : Msg) (s : St Ideal) (hs : Holds s M) (ho : Kept s O) :
    (n : Nat) → (h : n ≤ 16) → Holds (blksSt x s n h) (upds p M (8 * n)) ∧ Kept (blksSt x s n h) O
  | 0, _ => ⟨hs, ho⟩
  | n + 1, h =>
    have ih := blks_holds hx M O s hs ho n (Nat.le_of_succ_le h)
    ⟨blk_holds hx M n h _ ih.1, blk_kept n h _ ih.2⟩

/-! ## The mixture -/

/-- The network at an entry of the message matrices: the plain gate. -/
theorem net_apply {x : Ins Ideal} {p : Par} (hx : Reads x p) (m o f t : FVec Ideal S128x128 .f32) (j i : Fin 128) :
    net x m o f t (ix2 j i) = gate p (m (ix2 j i)) (o (ix2 j i)) (f (ix2 j i)) (t (ix2 j i)) := by
  unfold net
  rw [hx.b3]
  exact mlp_apply _ _ _ _ _ p hx.w1 hx.b1 hx.w2 hx.b2 hx.w3 _ _ _ _ j i

/-- The first calibration's gate, at an entry. -/
theorem al0_apply {x : Ins Ideal} {p : Par} (hx : Reads x p) {s : St Ideal} {M O : Msg} (hs : Holds s M) (ho : Kept s O)
    (j i : Fin 128) : al0 x s (ix2 j i) = keep0 p O M j i := by
  unfold al0 keep0 belief0
  rw [net_apply hx, wide_apply, bel0_apply, hx.bc, hs.m0, ho.p0]
  show gate p _ _ _ (s.t0 (ix2 j i) + s.t1 (ix2 j i)) = _
  rw [hs.t0 j i, hs.t1 j i]
  simp only [hs.t0]

/-- The first state mixed: the matrices of the first state hold the mixture, the others stay. -/
theorem cal_holds {x : Ins Ideal} {p : Par} (hx : Reads x p) {s : St Ideal} {M O : Msg} (hs : Holds s M) (ho : Kept s O) :
    Holds (cal1 x (cal0 x s)) (calib p O M) := by
  have a0 := al0_apply hx hs ho
  have n0 : ∀ j i : Fin 128, (cal0 x s).m0 (ix2 j i) = mixed0 p O M j i := by
    intro j i
    show mix (al0 x s) s.m0 s.p0 (ix2 j i) = _
    rw [mix_apply, a0, hs.m0, ho.p0, mixed0]
  have nt : ∀ j i : Fin 128, (cal0 x s).t0 (ix2 j i) = mixed0 p O M i j := by
    intro j i
    show mix (tr (al0 x s)) s.t0 s.q0 (ix2 j i) = _
    rw [mix_apply, tr_apply, a0, hs.t0, ho.q0, mixed0]
  have a1 : ∀ j i : Fin 128, al1 x (cal0 x s) (ix2 j i) = keep1 p O M j i := by
    intro j i
    unfold al1 keep1 belief1
    rw [net_apply hx, wide_apply, bel1_apply, hx.bc]
    show gate p (s.m1 (ix2 j i)) (s.p1 (ix2 j i)) ((∑ k, s.t1 (ix2 j k)) + _) (s.t1 (ix2 j i) + (cal0 x s).t0 (ix2 j i)) = _
    rw [nt, hs.m1, ho.p1]
    simp only [hs.t1]
  refine ⟨n0, fun j i => ?_, nt, fun j i => ?_⟩
  · show mix (al1 x (cal0 x s)) s.m1 s.p1 (ix2 j i) = mixed1 p O M j i
    rw [mix_apply, a1, hs.m1, ho.p1, mixed1]
  · show mix (tr (al1 x (cal0 x s))) s.t1 s.q1 (ix2 j i) = mixed1 p O M i j
    rw [mix_apply, tr_apply, a1, hs.t1, ho.q1, mixed1]

/-! ## Iterations -/

/-- One iteration. -/
theorem trip_holds {x : Ins Ideal} {p : Par} (hx : Reads x p) {s : St Ideal} {M : Msg} (hs : Holds s M) :
    Holds (tripSt x s) (trip p M) :=
  have h := blks_holds hx M M (saveSt s) ⟨hs.m0, hs.m1, hs.t0, hs.t1⟩ ⟨hs.m0, hs.m1, hs.t0, hs.t1⟩ 16 (Nat.le_refl 16)
  cal_holds hx h.1 h.2

/-- The iterations hold what the plain iterations give. -/
theorem trips_holds {x : Ins Ideal} {p : Par} (hx : Reads x p) {s : St Ideal} {M : Msg} (hs : Holds s M) :
    (n : Nat) → Holds ((tripSt x)^[n] s) ((trip p)^[n] M)
  | 0 => hs
  | n + 1 => by
    rw [Function.iterate_succ_apply', Function.iterate_succ_apply']
    exact trip_holds hx (trips_holds hx hs n)

/-- The ten iterations. -/
theorem loop_holds {x : Ins Ideal} {p : Par} (hx : Reads x p) (s : St Ideal) : Holds (loopSt x s) (final p) :=
  trips_holds hx (s := zeroSt s) (M := zeroMsg) ⟨zeroM_apply, zeroM_apply, zeroM_apply, zeroM_apply⟩ 10

/-- The output: the normalised beliefs after the ten iterations. -/
theorem out_apply {x : Ins Ideal} {p : Par} (hx : Reads x p) (s : St Ideal) (j : Fin 128) (c : Fin 2) :
    outV x (loopSt x s) (ix2 j c) = prob p j c := by
  have h := loop_holds hx s
  have b0 : bel0 (F := Ideal) (loopSt x s).t0 x.bc (ix2 j 0) = belief0 p (final p) j := by
    rw [bel0_apply, hx.bc]; simp only [h.t0]; rfl
  have b1 : bel1 (F := Ideal) (loopSt x s).t1 x.bc (ix2 j 0) = belief1 p (final p) j := by
    rw [bel1_apply, hx.bc]; simp only [h.t1]; rfl
  unfold outV prob
  fin_cases c
  · have e : (ix2 j (0 : Fin 2) : S128x2.Idx) = rectO0.emb (ix2 j (0 : Fin 1)) := by
      funext a
      fin_cases a <;> ext <;> simp [Rect.emb, Rect.unit]
    have ne : (ix2 j (0 : Fin 2) : S128x2.Idx) ∉ rectO1.set := by
      rw [Rect.mem_set_unit]; intro hh; have := (hh 1).1; simp at this
    show rectO1.overlay _ _ (ix2 j (0 : Fin 2)) = _
    rw [Rect.overlay_of_not_mem _ _ _ ne, e, Rect.overlay_emb]
    show prob0 (F := Ideal) _ _ (ix2 j 0) = _
    rw [prob0_apply, b0, b1]
    rfl
  · have e : (ix2 j (1 : Fin 2) : S128x2.Idx) = rectO1.emb (ix2 j (0 : Fin 1)) := by
      funext a
      fin_cases a <;> ext <;> simp [Rect.emb, Rect.unit]
    show rectO1.overlay _ _ (ix2 j (1 : Fin 2)) = _
    rw [e, Rect.overlay_emb]
    show prob1 (F := Ideal) _ _ (ix2 j 0) = _
    rw [prob1_apply, b0, b1]
    rfl

end Cert.KernelIdeal.Bp

end
-- ==== Proof.RRead.lean ====
/- The reference's step read at an index, over the extended reals: it is one node sending its messages, and after the
   last node the mixture. -/
module

public import proofs.«01_k».proof.Proof.Gen.ReferenceIdeal.Run
public import proofs.«01_k».proof.Proof.Model
public import Idealize.ShloMosaic.Lib.WordCmp
public import Idealize.ShloMosaic.Lib.Affine
public import Idealize.ShloMosaic.Lib.DynamicIndex

@[expose] public section

set_option maxRecDepth 16384

noncomputable section

namespace Cert.ReferenceIdeal.Bp

open Idealize.ShloMosaic Idealize.ShloMosaic.WordCmp Idealize.ShloMosaic.TcCoe
open Cert.ReferenceIdeal Cert.ReferenceIdeal.Facts₀ Cert.ReferenceIdeal.Facts Cert.ReferenceIdeal.Value Cert.Bp

/-- The carried constants hold the values `p`: couplings, biases, weights, and the signs of the two states. -/
structure Reads (V : Valuation τ sig (Elt Ideal)) (p : Par) : Prop where
  J : ∀ i l : Fin 128, (V (Proc.devRef .tc main_v1_0) : FVec Ideal S128x128 .f32) (ix2 i l) = p.J i l
  xij : ∀ c d : Fin 2, (V (Proc.devRef .tc main_v1_1) : FVec Ideal S2x2 .f32) (ix2 c d) = (if c = d then 1 else -1 : EReal)
  b : ∀ i : Fin 128, (V (Proc.devRef .tc main_v1_2) : FVec Ideal S128 .f32) (ix1 i) = p.b i
  xi : ∀ c : Fin 2, (V (Proc.devRef .tc main_v1_3) : FVec Ideal S2 .f32) (ix1 c) = (if c = 0 then -1 else 1 : EReal)
  w1 : ∀ c k, (V (Proc.devRef .tc main_v1_4) : FVec Ideal S4x64 .f32) (ix2 c k) = p.W1 c k
  b1 : ∀ k, (V (Proc.devRef .tc main_v1_5) : FVec Ideal S64 .f32) (ix1 k) = p.b1 k
  w2 : ∀ k' k, (V (Proc.devRef .tc main_v1_6) : FVec Ideal S64x64 .f32) (ix2 k' k) = p.W2 k' k
  b2 : ∀ k, (V (Proc.devRef .tc main_v1_7) : FVec Ideal S64 .f32) (ix1 k) = p.b2 k
  w3 : ∀ k, (V (Proc.devRef .tc main_v1_8) : FVec Ideal S64x1 .f32) (ix2 k 0) = p.W3 k
  b3 : (V (Proc.devRef .tc main_v1_9) : FVec Ideal S1 .f32) (ix1 0) = p.b3

/-- A message array holds the messages `M`. -/
structure Holds (X : FVec Ideal S128x128x2 .f32) (M : Msg) : Prop where
  m0 : ∀ j i : Fin 128, X (ix3 j i 0) = M.m0 j i
  m1 : ∀ j i : Fin 128, X (ix3 j i 1) = M.m1 j i

variable {V : Valuation τ sig (Elt Ideal)} {p : Par}

/-- The node of step `128 k + i`. -/
theorem node_eq (k : Nat) (i : Fin 128) (hk : k < 10)
    (ht : V (Proc.devRef .tc main_v1_11) = fun _ => BitVec.ofNat 32 (128 * k + i.val)) :
    res_main_while0b_v18 V = fun _ => BitVec.ofNat 32 i.val := by
  unfold res_main_while0b_v18
  rw [ht]
  funext _
  apply BitVec.eq_of_toNat_eq
  show (IntOp.remsi .host (BitVec.ofNat 32 (128 * k + i.val)) (BitVec.ofNat 32 128)).toNat = _
  rw [IntOp.toNat_remsi _ (by simp; omega) 128 (by omega) (by omega)]
  simp
  omega

/-- An index that is not negative is taken as it is. -/
theorem index_node (i : Fin 128) (a : IVec S_ 32) (j : S_.Idx) :
    (select (cmpi .slt (fun _ => BitVec.ofNat 32 i.val) (constantI S_ 32 0#32)) a (fun _ => BitVec.ofNat 32 i.val) j).toInt
      = (i.val : Int) := by
  have h : (BitVec.ofNat 32 i.val).toInt = (i.val : Int) := WordCmp.toInt_ofNat_of_lt (by simp; omega)
  rw [select_slt_zero_of_nonneg _ _ _ j (by rw [h]; omega), h]
/-- A slice start that is the constant zero, after the wrap of negative starts. -/
theorem index_zero (a : IVec S_ 32) (j : S_.Idx) :
    (select (cmpi .slt (constantI S_ 32 0#32) (constantI S_ 32 0#32)) a (constantI S_ 32 0#32) j).toInt = ((0 : Nat) : Int) := by
  rw [select_slt_zero_of_nonneg _ _ _ j (by simp [constantI])]
  simp [constantI]

/-- The constant zero, as an integer. -/
theorem index_const (j : S_.Idx) : (constantI S_ 32 0#32 j).toInt = ((0 : Nat) : Int) := by simp [constantI]

/-- The starts of a slice, axis by axis. -/
theorem starts3 {a b c : IVec S_ 32} {j : S_.Idx} {k : Fin 3 → Nat} (ha : (a j).toInt = (k 0 : Int)) (hb : (b j).toInt = (k 1 : Int))
    (hc : (c j).toInt = (k 2 : Int)) (x : Fin 3) : ((![a, b, c] : Fin 3 → IVec S_ 32) x j).toInt = (k x : Int) := by
  fin_cases x
  · exact ha
  · exact hb
  · exact hc
/-- The starts of a slice of a matrix. -/
theorem starts2 {a b : IVec S_ 32} {j : S_.Idx} {k : Fin 2 → Nat} (ha : (a j).toInt = (k 0 : Int)) (hb : (b j).toInt = (k 1 : Int))
    (x : Fin 2) : ((![a, b] : Fin 2 → IVec S_ 32) x j).toInt = (k x : Int) := by
  fin_cases x
  · exact ha
  · exact hb
/-- The start of a slice of a vector. -/
theorem starts1 {a : IVec S_ 32} {j : S_.Idx} {k : Fin 1 → Nat} (ha : (a j).toInt = (k 0 : Int))
    (x : Fin 1) : ((![a] : Fin 1 → IVec S_ 32) x j).toInt = (k x : Int) := by
  fin_cases x
  exact ha

/-- Node `i`'s incoming messages lie in the message array. -/
theorem slices_col (i : Fin 128) : S128x128x2.Slices ![0, i.val, 0] S128x1x2 :=
  ⟨rfl, fun a => by fin_cases a <;> simp [S128x128x2, S128x1x2] <;> omega⟩
/-- Row `i` lies in the coupling matrix. -/
theorem slices_row (i : Fin 128) : S128x128.Slices ![i.val, 0] S1x128 :=
  ⟨rfl, fun a => by fin_cases a <;> simp [S128x128, S1x128] <;> omega⟩
/-- Entry `i` lies in the bias vector. -/
theorem slices_word (i : Fin 128) : S128.Slices ![i.val] S1 :=
  ⟨rfl, fun a => by fin_cases a <;> simp [S128, S1] <;> omega⟩
/-- Node `i`'s outgoing messages lie in the message array. -/
theorem slices_upd (i : Fin 128) : S128x128x2.Slices ![i.val, 0, 0] S1x128x2 :=
  ⟨rfl, fun a => by fin_cases a <;> simp [S128x128x2, S1x128x2] <;> omega⟩

/-- The messages that come in to node `i`. -/
theorem col_apply (i : Fin 128) (hi : res_main_while0b_v18 V = fun _ => BitVec.ofNat 32 i.val) (l : Fin 128) (c : Fin 2) :
    (res_main_while0b_v56 V : FVec Ideal S128x2 .f32) (ix2 l c) = (V (Proc.devRef .tc main_v1_12) : FVec Ideal S128x128x2 .f32) (ix3 l i c) := by
  unfold res_main_while0b_v56 res_main_while0b_v45
  rw [hi]
  rw [dynamicSlice_eq_extract S128x1x2 (V (Proc.devRef .tc main_v1_12) : FVec Ideal S128x128x2 .f32) _ _ ![0, i.val, 0] (slices_col i) ?_]
  · pointwise
  · exact starts3 (index_zero _ _) (index_node i _ _) (index_zero _ _)

/-- The messages `X` with node `i`'s sent anew, at an index, in the reference's words. -/
def sentAt (X : FVec Ideal S128x128x2 .f32) (J : FVec Ideal S128x128 .f32) (xij : FVec Ideal S2x2 .f32) (b : FVec Ideal S128 .f32)
    (xi : FVec Ideal S2 .f32) (i j l : Fin 128) (c : Fin 2) : EReal :=
  if j = i then
    Ideal.log (∑ x : Fin 2, Ideal.exp ((∑ k : Fin 128, X (ix3 k i x)) - X (ix3 l i x)
      + (J (ix2 i l) * xij (ix2 x c) + b (ix1 i) * xi (ix1 x))))
  else X (ix3 j l c)

/-- The step's messages: those before, with node `i`'s sent anew. -/
theorem sent_apply (i : Fin 128) (hi : res_main_while0b_v18 V = fun _ => BitVec.ofNat 32 i.val) (j l : Fin 128) (c : Fin 2) :
    (res_main_while0b_v72 V : FVec Ideal S128x128x2 .f32) (ix3 j l c) =
      sentAt (V (Proc.devRef .tc main_v1_12)) (V (Proc.devRef .tc main_v1_0)) (V (Proc.devRef .tc main_v1_1))
        (V (Proc.devRef .tc main_v1_2)) (V (Proc.devRef .tc main_v1_3)) i j l c := by
  unfold sentAt
  have hc := col_apply (V := V) i hi
  unfold res_main_while0b_v72 res_main_while0b_v19
  rw [hi]
  rw [dynamicUpdateSlice_eq_update (V (Proc.devRef .tc main_v1_12) : FVec Ideal S128x128x2 .f32) _ _ _ ![i.val, 0, 0] (slices_upd i) ?e1,
    dynamicSlice_eq_extract S1x128 (V (Proc.devRef .tc main_v1_0) : FVec Ideal S128x128 .f32) _ _ ![i.val, 0] (slices_row i) ?e2,
    dynamicSlice_eq_extract S1 (V (Proc.devRef .tc main_v1_2) : FVec Ideal S128 .f32) _ _ ![i.val] (slices_word i) ?e3]
  case e1 => exact starts3 (index_node i _ _) (index_const _) (index_const _)
  case e2 => exact starts2 (index_node i _ _) (index_zero _ _)
  case e3 => exact starts1 (index_node i _ _)
  pointwise
  by_cases h : j = i
  · subst h
    rw [if_pos rfl, dif_pos]
    · simp only [hc]
    · intro a
      fin_cases a
      · show j.val ≤ j.val ∧ j.val < j.val + 1; omega
      · show 0 ≤ l.val ∧ l.val < 0 + 128; omega
      · show 0 ≤ c.val ∧ c.val < 0 + 2; omega
  · rw [if_neg h, dif_neg]
    intro hh
    have h0 := hh 0
    simp at h0
    exact h (Fin.ext (by omega))

/-- After the step the messages are those with node `i`'s sent anew. -/
theorem sent_holds (hV : Reads V p) (i : Fin 128) (hi : res_main_while0b_v18 V = fun _ => BitVec.ofNat 32 i.val) {M : Msg}
    (hM : Holds (V (Proc.devRef .tc main_v1_12)) M) : Holds (res_main_while0b_v72 V) (upd p i M) := by
  have e0 : ∀ x y z : EReal, x + (y * 1 + z * -1) = x - z + y := by
    intro x y z; rw [mul_one, mul_neg, mul_one, sub_eq_add_neg, add_assoc, add_comm y]
  have e1 : ∀ x y z : EReal, x + (y * -1 + z * 1) = x + z - y := by
    intro x y z; rw [mul_one, mul_neg, mul_one, sub_eq_add_neg, add_assoc, add_comm z]
  have e2 : ∀ x y z : EReal, x + (y * -1 + z * -1) = x - z - y := by
    intro x y z; rw [mul_neg, mul_one, mul_neg, mul_one, sub_eq_add_neg, sub_eq_add_neg, add_assoc, add_comm (-z)]
  have e3 : ∀ x y z : EReal, x + (y * 1 + z * 1) = x + z + y := by
    intro x y z; rw [mul_one, mul_one, add_assoc, add_comm z]
  have c01 : ((0 : Fin 2) = 1) = False := by simp
  have c10 : ((1 : Fin 2) = 0) = False := by simp
  constructor
  · intro j l
    rw [sent_apply i hi, sentAt]
    split
    · next h =>
      rw [h, upd_m0_same, Fin.sum_univ_two]
      simp only [hM.m0, hM.m1, hV.J, hV.xij, hV.b, hV.xi, fresh0, cav0, cav1, lse]
      simp only [c01, c10, if_true, if_false, e0, e1]
    · next h => rw [upd_m0_ne p h]; exact hM.m0 j l
  · intro j l
    rw [sent_apply i hi, sentAt]
    split
    · next h =>
      rw [h, upd_m1_same, Fin.sum_univ_two]
      simp only [hM.m0, hM.m1, hV.J, hV.xij, hV.b, hV.xi, fresh1, cav0, cav1, lse]
      simp only [c01, c10, if_true, if_false, e2, e3]
    · next h => rw [upd_m1_ne p h]; exact hM.m1 j l

/-! ## The mixture -/

/-- The belief in state 0 that the calibration of channel 0 reads. -/
theorem belief0_apply (hV : Reads V p) {M : Msg} (hM : Holds (res_main_while0b_v72 V) M) (j : Fin 128) :
    (res_main_while0b_v78 V : FVec Ideal S128x2 .f32) (ix2 j 0) = belief0 p M j := by
  unfold res_main_while0b_v78
  pointwise
  simp only [hM.m0, hV.b]
  rw [add_comm, ← sub_eq_add_neg]
  rfl

/-- The belief in state 1 that the calibration of channel 1 reads. -/
theorem belief1_apply (hV : Reads V p) {M : Msg} (hM : Holds (res_main_while0b_v72 V) M) (j : Fin 128) :
    (res_main_while0b_v78 V : FVec Ideal S128x2 .f32) (ix2 j 1) = belief1 p M j := by
  unfold res_main_while0b_v78
  pointwise
  simp only [hM.m1, hV.b]
  rw [add_comm]
  rfl

/-- Channel 0's gate. -/
theorem keep0_apply (hV : Reads V p) {M O : Msg} (hM : Holds (res_main_while0b_v72 V) M) (hO : Holds (V (Proc.devRef .tc main_v1_13)) O)
    (j i : Fin 128) : (res_main_while0b_v110 V : FVec Ideal S128x128x1 .f32) (ix3 j i 0) = keep0 p O M j i := by
  unfold res_main_while0b_v110 res_main_while0b_v79 res_main_while0b_v80 res_main_while0b_v81
  pointwise
  unfold keep0 gate Ideal.logistic
  simp [Fin.sum_univ_four, hM.m0, hM.m1, hO.m0, belief0_apply hV hM, hV.w1, hV.w2, hV.w3, hV.b1, hV.b2, hV.b3]

/-- The messages after channel 0 is mixed. -/
theorem mixed0_apply (hV : Reads V p) {M O : Msg} (hM : Holds (res_main_while0b_v72 V) M) (hO : Holds (V (Proc.devRef .tc main_v1_13)) O)
    (j i : Fin 128) : (res_main_while0b_v115 V : FVec Ideal S128x128x1 .f32) (ix3 j i 0) = mixed0 p O M j i := by
  have h := keep0_apply hV hM hO j i
  unfold res_main_while0b_v115 res_main_while0b_v79 res_main_while0b_v81
  pointwise
  simp only [h, hM.m0, hO.m0]
  rfl

/-- Channel 1's gate. -/
theorem keep1_apply (hV : Reads V p) {M O : Msg} (hM : Holds (res_main_while0b_v72 V) M) (hO : Holds (V (Proc.devRef .tc main_v1_13)) O)
    (j i : Fin 128) : (res_main_while0b_v143 V : FVec Ideal S128x128x1 .f32) (ix3 j i 0) = keep1 p O M j i := by
  have h := mixed0_apply hV hM hO i j
  unfold res_main_while0b_v143 res_main_while0b_v80 res_main_while0b_v82
  pointwise
  unfold keep1 gate Ideal.logistic
  simp [Fin.sum_univ_four, hM.m0, hM.m1, hO.m1, belief1_apply hV hM, hV.w1, hV.w2, hV.w3, hV.b1, hV.b2, hV.b3, h]

/-- Both channels mixed: the plain calibration. -/
theorem mixed_holds (hV : Reads V p) {M O : Msg} (hM : Holds (res_main_while0b_v72 V) M) (hO : Holds (V (Proc.devRef .tc main_v1_13)) O) :
    Holds (res_main_while0b_v149 V) (calib p O M) := by
  constructor
  · intro j i
    have h := mixed0_apply hV hM hO j i
    unfold res_main_while0b_v149
    pointwise
    exact h
  · intro j i
    have h := keep1_apply hV hM hO j i
    unfold res_main_while0b_v149 res_main_while0b_v80 res_main_while0b_v82
    pointwise
    simp only [h, hM.m1, hO.m1]
    rfl

end Cert.ReferenceIdeal.Bp

end
-- ==== Proof.RVal.lean ====
/- The reference's loop read as messages: after `128 k + n` steps it holds the messages of the plain functions, `k`
   iterations done and the first `n` nodes of the next having sent. -/
module

public import proofs.«01_k».proof.Proof.RRead

@[expose] public section

set_option maxRecDepth 16384

noncomputable section

namespace Cert.ReferenceIdeal.Bp

open Idealize.ShloMosaic Idealize.ShloMosaic.WordCmp Idealize.ShloMosaic.TcCoe Idealize.ShloMosaic.StableHlo
open Cert.ReferenceIdeal Cert.ReferenceIdeal.Facts₀ Cert.ReferenceIdeal.Facts Cert.ReferenceIdeal.Value Cert.Bp

variable {V : Valuation τ sig (Elt Ideal)} {p : Par}

/-- A step keeps the carried constants. -/
theorem reads_step (hV : Reads V p) : Reads (STEP V) p := by
  constructor
  · rw [STEP_main_v1_0]; exact hV.J
  · rw [STEP_main_v1_1]; exact hV.xij
  · rw [STEP_main_v1_2]; exact hV.b
  · rw [STEP_main_v1_3]; exact hV.xi
  · rw [STEP_main_v1_4]; exact hV.w1
  · rw [STEP_main_v1_5]; exact hV.b1
  · rw [STEP_main_v1_6]; exact hV.w2
  · rw [STEP_main_v1_7]; exact hV.b2
  · rw [STEP_main_v1_8]; exact hV.w3
  · rw [STEP_main_v1_9]; exact hV.b3

/-- The loop's state: `k` iterations done, and the first `n` nodes of the next. -/
structure At (V : Valuation τ sig (Elt Ideal)) (p : Par) (k n : Nat) : Prop where
  reads : Reads V p
  step : V (Proc.devRef .tc main_v1_11) = fun _ => BitVec.ofNat 32 (128 * k + n)
  now : Holds (V (Proc.devRef .tc main_v1_12)) (upds p ((trip p)^[k] zeroMsg) n)
  old : Holds (V (Proc.devRef .tc main_v1_13)) ((trip p)^[k] zeroMsg)

/-- The last-node test, at every index. -/
theorem last_apply (i : Fin 128) (hi : res_main_while0b_v18 V = fun _ => BitVec.ofNat 32 i.val) (x : S128x128x2.Idx) :
    (res_main_while0b_v151 V : IVec S128x128x2 1) x = BitVec.ofBool (decide (i.val = 127)) := by
  unfold res_main_while0b_v151
  rw [hi]
  show IntOp.cmpi .eq (BitVec.ofNat 32 i.val) (BitVec.ofNat 32 127) = _
  rw [cmpi_eq_eq]
  congr 1
  exact decide_eq_decide.mpr (ofNat_eq_ofNat_iff (by omega) (by omega))

/-- A choice by the last-node test. -/
theorem choose (i : Fin 128) (hi : res_main_while0b_v18 V = fun _ => BitVec.ofNat 32 i.val) (X Y : FVec Ideal S128x128x2 .f32) :
    (id (select (res_main_while0b_v151 V) X Y) : FVec Ideal S128x128x2 .f32) = if i.val = 127 then X else Y := by
  funext x
  show Scalar.select (res_main_while0b_v151 V x) (X x) (Y x) = _
  rw [last_apply i hi]
  by_cases h : i.val = 127
  · rw [decide_eq_true h, if_pos h]; rfl
  · rw [decide_eq_false h, if_neg h]; rfl

/-- The counter of steps goes up by one. -/
theorem step_next (k n : Nat)
    (h : V (Proc.devRef .tc main_v1_11) = fun _ => BitVec.ofNat 32 (128 * k + n)) :
    STEP V (Proc.devRef .tc main_v1_11) = fun _ => BitVec.ofNat 32 (128 * k + n + 1) := by
  rw [STEP_main_v1_11]
  unfold step_main_v1_11
  rw [h]
  funext _
  show BitVec.ofNat 32 (128 * k + n) + 1#32 = _
  rw [← BitVec.ofNat_add]

/-- A step that is not the last of its iteration. -/
theorem at_step (k n : Nat) (hk : k < 10) (hn : n < 127) (h : At V p k n) : At (STEP V) p k (n + 1) := by
  have hi := node_eq (V := V) k ⟨n, by omega⟩ hk h.step
  have hs := sent_holds h.reads ⟨n, by omega⟩ hi h.now
  refine ⟨reads_step h.reads, step_next k n h.step, ?_, ?_⟩
  · rw [STEP_main_v1_12, upds_succ p _ n (by omega)]
    unfold step_main_v1_12
    rw [choose ⟨n, by omega⟩ hi, if_neg (by simp; omega)]
    exact hs
  · rw [STEP_main_v1_13]
    unfold step_main_v1_13
    rw [choose ⟨n, by omega⟩ hi, if_neg (by simp; omega)]
    exact h.old

/-- The last step of an iteration. -/
theorem at_last (k : Nat) (hk : k < 10) (h : At V p k 127) : At (STEP V) p (k + 1) 0 := by
  have hi := node_eq (V := V) k ⟨127, by omega⟩ hk h.step
  have hs := sent_holds h.reads ⟨127, by omega⟩ hi h.now
  rw [← upds_succ p _ 127 (by omega)] at hs
  have hm := mixed_holds h.reads hs h.old
  refine ⟨reads_step h.reads, (step_next k 127 h.step).trans (by rw [show 128 * k + 127 + 1 = 128 * (k + 1) + 0 by omega]), ?_, ?_⟩
  · rw [STEP_main_v1_12, Function.iterate_succ_apply']
    unfold step_main_v1_12
    rw [choose ⟨127, by omega⟩ hi, if_pos rfl]
    exact hm
  · rw [STEP_main_v1_13, Function.iterate_succ_apply']
    unfold step_main_v1_13
    rw [choose ⟨127, by omega⟩ hi, if_pos rfl]
    exact hm

/-- The first `n` steps of an iteration. -/
theorem at_steps (k : Nat) (hk : k < 10) (h : At V p k 0) : (n : Nat) → n ≤ 127 → At (STEP^[n] V) p k n
  | 0, _ => h
  | n + 1, hn => by
    rw [Function.iterate_succ_apply']
    exact at_step k n hk (by omega) (at_steps k hk h n (by omega))

/-- One iteration. -/
theorem at_trip (k : Nat) (hk : k < 10) (h : At V p k 0) : At (STEP^[128] V) p (k + 1) 0 := by
  rw [Function.iterate_succ_apply' STEP 127]
  exact at_last k hk (at_steps k hk h 127 (Nat.le_refl _))

/-- The first `k` iterations. -/
theorem at_trips (h : At V p 0 0) : (k : Nat) → k ≤ 10 → At (STEP^[128 * k] V) p k 0
  | 0, _ => h
  | k + 1, hk => by
    rw [show 128 * (k + 1) = 128 + 128 * k by omega, Function.iterate_add_apply]
    exact at_trip k (by omega) (at_trips h k (by omega))

/-! ## The loop's entry -/

variable (m : (ℓ : Loc nD τ sig) → Buf (Elt Ideal) ℓ)

/-- The inputs the memory's arguments hold. -/
def parOf (c : Dev nD) : Par where
  J i l := (m ((c.tc : Thread nD τ).loc main_arg0) : FVec Ideal S128x128 .f32) (ix2 i l)
  b i := (m ((c.tc : Thread nD τ).loc main_arg1) : FVec Ideal S128 .f32) (ix1 i)
  W1 a k := (m ((c.tc : Thread nD τ).loc main_arg2) : FVec Ideal S4x64 .f32) (ix2 a k)
  b1 k := (m ((c.tc : Thread nD τ).loc main_arg3) : FVec Ideal S64 .f32) (ix1 k)
  W2 k' k := (m ((c.tc : Thread nD τ).loc main_arg4) : FVec Ideal S64x64 .f32) (ix2 k' k)
  b2 k := (m ((c.tc : Thread nD τ).loc main_arg5) : FVec Ideal S64 .f32) (ix1 k)
  W3 k := (m ((c.tc : Thread nD τ).loc main_arg6) : FVec Ideal S64x1 .f32) (ix2 k 0)
  b3 := (m ((c.tc : Thread nD τ).loc main_arg7) : FVec Ideal S1 .f32) (ix1 0)

/-- The word of minus one. -/
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- The loop starts with the inputs the arguments hold. -/
theorem entry_reads (c : Dev nD) : Reads (entryContents preI m c) (parOf m c) := by
  constructor
  · intro i l
    simp only [entryContents, afterL_cons, afterL_nil]
    after_reads_simp
    rfl
  · intro a d
    simp only [entryContents, afterL_cons, afterL_nil]
    after_reads_simp
    fin_cases a <;> fin_cases d <;> simp <;> first | exact Ideal.ofBits_one_f32 | exact ofBits_neg_one
  · intro i
    simp only [entryContents, afterL_cons, afterL_nil]
    after_reads_simp
    rfl
  · intro a
    simp only [entryContents, afterL_cons, afterL_nil]
    after_reads_simp
    fin_cases a <;> simp <;> first | exact Ideal.ofBits_one_f32 | exact ofBits_neg_one
  · intro a k
    simp only [entryContents, afterL_cons, afterL_nil]
    after_reads_simp
    rfl
  · intro k
    simp only [entryContents, afterL_cons, afterL_nil]
    after_reads_simp
    rfl
  · intro k' k
    simp only [entryContents, afterL_cons, afterL_nil]
    after_reads_simp
    rfl
  · intro k
    simp only [entryContents, afterL_cons, afterL_nil]
    after_reads_simp
    rfl
  · intro k
    simp only [entryContents, afterL_cons, afterL_nil]
    after_reads_simp
    rfl
  · simp only [entryContents, afterL_cons, afterL_nil]
    after_reads_simp
    rfl

/-- The loop starts from zero messages. -/
theorem entry_at (c : Dev nD) : At (entryContents preI m c) (parOf m c) 0 0 := by
  refine ⟨entry_reads m c, ?_, ⟨fun j i => ?_, fun j i => ?_⟩, ⟨fun j i => ?_, fun j i => ?_⟩⟩
  · simp only [entryContents, afterL_cons, afterL_nil]
    after_reads_simp
    rfl
  all_goals
    simp only [entryContents, afterL_cons, afterL_nil]
    after_reads_simp
    exact Ideal.ofBits_zero_f32

/-! ## The result -/

/-- The word of minus infinity is the bottom. -/
theorem ofBits_neg_inf : Ideal.ofBits .f32 0xFF800000#32 = ⊥ := by
  simp [Ideal.ofBits, Ideal.ieee]

/-- The maximum of two, folded from the bottom. -/
theorem fold_max (f : Fin 2 → EReal) : Finset.univ.fold max (⊥ : EReal) f = max (f 0) (f 1) := by
  rw [show (Finset.univ : Finset (Fin 2)) = {0, 1} from rfl, Finset.fold_insert (by decide), Finset.fold_singleton,
    max_eq_left (a := f 1) bot_le]

/-- The reference's last line: the normalised beliefs of the messages the loop leaves. -/
theorem out_apply (hb : ∀ i : Fin 128, (V (Proc.devRef .tc main_arg1) : FVec Ideal S128 .f32) (ix1 i) = p.b i)
    (hM : Holds (V (Proc.devRef .tc main_v1_12)) (final p)) (j : Fin 128) (c : Fin 2) :
    (out_main_v16 V : FVec Ideal S128x2 .f32) (ix2 j c) = prob p j c := by
  have e0 : -p.b j + ∑ x : Fin 128, (final p).m0 x j = belief0 p (final p) j := by
    unfold belief0; rw [add_comm, sub_eq_add_neg]
  have e1 : p.b j + ∑ x : Fin 128, (final p).m1 x j = belief1 p (final p) j := add_comm _ _
  unfold out_main_v16 prob soft
  pointwise
  simp only [ofBits_neg_inf, fold_max, hb, hM.m0, hM.m1, Fin.val_zero, Fin.val_one, Nat.lt_irrefl, Nat.lt_one_iff, dite_true, dite_false, Nat.zero_lt_one, e0, e1]
  fin_cases c <;> simp [hb, hM.m0, hM.m1, e0, e1]

/-- The reference's result: the normalised beliefs after the ten iterations. -/
theorem result_apply (c : Dev nD) (j : Fin 128) (a : Fin 2) :
    (out_main_v16 (STEP^[1280] (entryContents preI m c)) : FVec Ideal S128x2 .f32) (ix2 j a) = prob (parOf m c) j a := by
  have h := at_trips (entry_at m c) 10 (Nat.le_refl _)
  refine out_apply (fun i => ?_) h.now j a
  rw [iter_main_arg1]
  rfl

end Cert.ReferenceIdeal.Bp

end
-- ==== Proof.Value.lean ====
/- The values: the kernel's result and the reference's are the normalised beliefs of the same messages. -/
module

public import proofs.«01_k».proof.Proof.Launch
public import proofs.«01_k».proof.Proof.KVal
public import proofs.«01_k».proof.Proof.RVal
public import proofs.«01_k».proof.Defs
public import Idealize.ShloMosaic.Lib.Claim
public import Idealize.ShloMosaic.Lib.Pipeline.ValueKit.Geometry

@[expose] public section

set_option maxRecDepth 16384

noncomputable section

namespace Cert.KernelIdeal.Bp

open Idealize.ShloMosaic Idealize.ShloMosaic.TcCoe Idealize.ShloMosaic.StableHlo
open Idealize.ShloMosaic.Pipeline (Dat Cfg Window)
open Cert.KernelIdeal Cert.KernelIdeal.Facts₀ Cert.KernelIdeal.Facts Cert.KernelIdeal.Gen Cert.Bp

variable (m : (ℓ : Loc nD τ sig) → Buf (Elt Ideal) ℓ)

/-- The inputs the memory's arguments hold. -/
def parOf (c : Dev nD) : Par where
  J i l := (m ((c.tc : Thread nD τ).loc main_arg0) : FVec Ideal S128x128 .f32) (ix2 i l)
  b i := (m ((c.tc : Thread nD τ).loc main_arg1) : FVec Ideal S128 .f32) (ix1 i)
  W1 a k := (m ((c.tc : Thread nD τ).loc main_arg2) : FVec Ideal S4x64 .f32) (ix2 a k)
  b1 k := (m ((c.tc : Thread nD τ).loc main_arg3) : FVec Ideal S64 .f32) (ix1 k)
  W2 k' k := (m ((c.tc : Thread nD τ).loc main_arg4) : FVec Ideal S64x64 .f32) (ix2 k' k)
  b2 k := (m ((c.tc : Thread nD τ).loc main_arg5) : FVec Ideal S64 .f32) (ix1 k)
  W3 k := (m ((c.tc : Thread nD τ).loc main_arg6) : FVec Ideal S64x1 .f32) (ix2 k 0)
  b3 := (m ((c.tc : Thread nD τ).loc main_arg7) : FVec Ideal S1 .f32) (ix1 0)

/-! Each window's block is its whole array. -/

/-- Window 0's block is its whole array. -/
theorem emb0 (t : Fin cfg0.N) (y) : (win0_0.blk t).view.emb y = y := by
  have h : ∀ (t : Fin cfg0.N) (a), win0_0.index t a = 0 := by decide +kernel
  funext a; apply Fin.ext; blk_simp
  rw [h, Nat.zero_mul, Nat.zero_add]
/-- Window 1's block is its whole array. -/
theorem emb1 (t : Fin cfg0.N) (y) : (win0_1.blk t).view.emb y = y := by
  have h : ∀ (t : Fin cfg0.N) (a), win0_1.index t a = 0 := by decide +kernel
  funext a; apply Fin.ext; blk_simp
  rw [h, Nat.zero_mul, Nat.zero_add]
/-- Window 2's block is its whole array. -/
theorem emb2 (t : Fin cfg0.N) (y) : (win0_2.blk t).view.emb y = y := by
  have h : ∀ (t : Fin cfg0.N) (a), win0_2.index t a = 0 := by decide +kernel
  funext a; apply Fin.ext; blk_simp
  rw [h, Nat.zero_mul, Nat.zero_add]
/-- Window 3's block is its whole array. -/
theorem emb3 (t : Fin cfg0.N) (y) : (win0_3.blk t).view.emb y = y := by
  have h : ∀ (t : Fin cfg0.N) (a), win0_3.index t a = 0 := by decide +kernel
  funext a; apply Fin.ext; blk_simp
  rw [h, Nat.zero_mul, Nat.zero_add]
/-- Window 4's block is its whole array. -/
theorem emb4 (t : Fin cfg0.N) (y) : (win0_4.blk t).view.emb y = y := by
  have h : ∀ (t : Fin cfg0.N) (a), win0_4.index t a = 0 := by decide +kernel
  funext a; apply Fin.ext; blk_simp
  rw [h, Nat.zero_mul, Nat.zero_add]
/-- Window 5's block is its whole array. -/
theorem emb5 (t : Fin cfg0.N) (y) : (win0_5.blk t).view.emb y = y := by
  have h : ∀ (t : Fin cfg0.N) (a), win0_5.index t a = 0 := by decide +kernel
  funext a; apply Fin.ext; blk_simp
  rw [h, Nat.zero_mul, Nat.zero_add]
/-- Window 6's block is its whole array. -/
theorem emb6 (t : Fin cfg0.N) (y) : (win0_6.blk t).view.emb y = y := by
  have h : ∀ (t : Fin cfg0.N) (a), win0_6.index t a = 0 := by decide +kernel
  funext a; apply Fin.ext; blk_simp
  rw [h, Nat.zero_mul, Nat.zero_add]
/-- Window 7's block is its whole array. -/
theorem emb7 (t : Fin cfg0.N) (y) : (win0_7.blk t).view.emb y = y := by
  have h : ∀ (t : Fin cfg0.N) (a), win0_7.index t a = 0 := by decide +kernel
  funext a; apply Fin.ext; blk_simp
  rw [h, Nat.zero_mul, Nat.zero_add]
/-- Window 8's block is its whole array. -/
theorem emb8 (t : Fin cfg0.N) (y) : (win0_8.blk t).view.emb y = y := by
  have h : ∀ (t : Fin cfg0.N) (a), win0_8.index t a = 0 := by decide +kernel
  funext a; apply Fin.ext; blk_simp
  rw [h, Nat.zero_mul, Nat.zero_add]
/-- Window 9's block is its whole array. -/
theorem emb9 (t : Fin cfg0.N) (y) : (win0_9.blk t).view.emb y = y := by
  have h : ∀ (t : Fin cfg0.N) (a), win0_9.index t a = 0 := by decide +kernel
  funext a; apply Fin.ext; blk_simp
  rw [h, Nat.zero_mul, Nat.zero_add]

/-- At the pipeline's one point the kernel's memrefs hold the arguments, some of them transposed or as columns. -/
theorem ins_reads (c : Dev nD) (t : Fin cfg0.N) : Reads (insAt m c t) (parOf m c) := by
  constructor
  · intro i l
    unfold insAt; dsimp only
    unfold iblk
    blk_simp
    rw [emb0]
    rw [V_main_arg0]; rfl
  · intro i
    unfold insAt; dsimp only
    unfold iblk
    blk_simp
    rw [emb1]
    rw [V_main_arg1]; rfl
  · intro i
    unfold insAt; dsimp only
    unfold iblk
    blk_simp
    rw [emb2]
    entry_read
    pointwise [parOf]
  · intro k a
    unfold insAt; dsimp only
    unfold iblk
    blk_simp
    rw [emb3]
    entry_read
    pointwise [parOf]
  · intro k
    unfold insAt; dsimp only
    unfold iblk
    blk_simp
    rw [emb4]
    entry_read
    pointwise [parOf]
  · intro k k'
    unfold insAt; dsimp only
    unfold iblk
    blk_simp
    rw [emb5]
    entry_read
    pointwise [parOf]
  · intro k
    unfold insAt; dsimp only
    unfold iblk
    blk_simp
    rw [emb6]
    entry_read
    pointwise [parOf]
  · intro k
    unfold insAt; dsimp only
    unfold iblk
    blk_simp
    rw [emb7]
    entry_read
    pointwise [parOf]
  · unfold b3At insAt; dsimp only
    unfold iblk
    blk_simp
    rw [emb8, V_main_arg7]
    show m ((c.tc : Thread nD τ).loc main_arg7) _ = m ((c.tc : Thread nD τ).loc main_arg7) (ix1 0)
    congr 1
    funext a
    fin_cases a
    exact Subsingleton.elim (α := Fin 1) _ _

/-- The kernel's result after the run: the normalised beliefs of the ten iterations' messages. -/
def resK (c : Dev nD) : FVec Ideal S128x2 .f32 := fun x => prob (parOf m c) (x 0) (x 1)

/-- The kernel's value at its one point is the normalised beliefs. -/
theorem outK_ins (c : Dev nD) (t : Fin cfg0.N) : outK (insAt m c t) = resK m c := by
  rw [← outV_loopSt _ st0]
  funext x
  refine Eq.trans ?_ (out_apply (ins_reads m c t) st0 (x 0) (x 1))
  congr 1
  funext a
  fin_cases a <;> rfl

/-- The result array after the run holds the normalised beliefs. -/
theorem final_out (c : Dev nD) : (dats m 0 c).arrAt 9 cfg0.N = resK m c := by
  refine (dats m 0 c).arrAt_eq_of_covers 9 _ (by decide +kernel) fun t hf y => ?_
  blk_simp
  rw [after9, outK_ins]
  rw [emb9]

/-- The run: the result holds the normalised beliefs, the arguments are as they were. -/
theorem run_values (g : Dev nD → PrngReg) :
    θ_run defs (onTc (τ := τ) (main (F := Ideal))) ⟨m, fun _ => 0, g⟩ (fun r => ∀ c : Dev nD,
      r.2.mem ((c.tc : Thread nD τ).loc main_v6) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (θ_run_and (run_main m g) (unchanged m g)) fun _ h c =>
    ⟨(Pipeline.FramePost.out_eq h.1.1 c 9).trans (final_out m c), h.2 c⟩

end Cert.KernelIdeal.Bp

namespace Cert.Bp

open Idealize.ShloMosaic Idealize.ShloMosaic.TcCoe Idealize.ShloMosaic.StableHlo

/-- Over the extended reals, from the same arguments, the kernel and the reference end with equal results. -/
theorem algebraic : algebraic_KernelIdeal_ReferenceIdeal := by
  intro m g m' g' _ hagree
  refine ⟨Cert.KernelIdeal.Bp.resK m, Cert.KernelIdeal.Bp.run_values m g, ?_⟩
  refine θ_run_mono (Cert.ReferenceIdeal.Value.run m' g') fun r h c => ?_
  refine ⟨(h c).1.trans ?_, (h c).2⟩
  have hp : Cert.ReferenceIdeal.Bp.parOf m' c = Cert.KernelIdeal.Bp.parOf m c := by
    obtain ⟨h0, h1, h2, h3, h4, h5, h6, h7⟩ := hagree c
    unfold Cert.ReferenceIdeal.Bp.parOf Cert.KernelIdeal.Bp.parOf
    rw [h0, h1, h2, h3, h4, h5, h6, h7]
  funext x
  refine Eq.trans ?_ ((Cert.ReferenceIdeal.Bp.result_apply m' c (x 0) (x 1)).trans ?_)
  · congr 1
    funext a
    fin_cases a <;> rfl
  · rw [hp]; rfl

end Cert.Bp

end
-- ==== Proof.lean ====
/- The claims, assembled: the frames of the printed kernel, of the idealized kernel and of the reference, and the value
   claim between the last two. -/
module

public import proofs.«01_k».proof.Defs
public import proofs.«01_k».proof.Proof.KFrame
public import proofs.«01_k».proof.Proof.RefFrame
public import proofs.«01_k».proof.Proof.Value

@[expose] public section

noncomputable section

namespace Cert.Proof

open Idealize.ShloMosaic Idealize.SL.Sem

/-- The printed kernel's frame. -/
theorem kernel_frame : Cert.quiescent_Kernel := fun m g _ => Cert.Kernel.Bp.frame (F := Bits) m g
/-- The idealized kernel's frame. -/
theorem ideal_frame : Cert.quiescent_KernelIdeal := fun m g _ => Cert.KernelIdeal.Bp.frame (F := Ideal) m g
/-- The reference's frame. -/
theorem reference_frame : Cert.quiescent_ReferenceIdeal := fun m g _ => Cert.ReferenceIdeal.Bp.frame (F := Ideal) m g

/-- Everything the certificate claims. -/
theorem claim : Cert.Claim :=
  ⟨Cert.Kernel.Gen.facts, Cert.KernelIdeal.Gen.facts, Cert.ReferenceIdeal.Gen.facts,
    kernel_frame, ideal_frame, reference_frame, trivial, Cert.Bp.algebraic⟩

end Cert.Proof

end
